-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite [hPre_finite : Cert.Pre_finite.Facts] (m : (ℓ : Loc Cert.InProjIdeal.nD Cert.InProjIdeal.τ Cert.InProjIdeal.sig) → Buf (Elt Ideal) ℓ) : Prop :=
  ∀ c : Dev Cert.InProjIdeal.nD,
    (Cert.Pre_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite [hPre_finite : Cert.Pre_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))) = (fun _ => 1#1)

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjIdeal_pre_finite [hInProjIdeal : Cert.InProjIdeal.Facts] [hPre_finite : Cert.Pre_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjRefIdeal_pre_finite [hInProjRefIdeal : Cert.InProjRefIdeal.Facts] [hPre_finite : Cert.Pre_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v17)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v17) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v85) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13))

def preserves_InProj_InProjIdeal : Prop :=
  True

def algebraic_InProjIdeal_InProjRefIdeal_pre_finite [hInProjIdeal : Cert.InProjIdeal.Facts] [hInProjRefIdeal : Cert.InProjRefIdeal.Facts] [hPre_finite : Cert.Pre_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v19_0)) (v1 : (c : Dev Cert.InProjIdeal.nD) → Buf (Elt Ideal) ((c.tc : Thread Cert.InProjIdeal.nD Cert.InProjIdeal.τ).loc Cert.InProjIdeal.main_v19_1)) (v2 : (c : Dev Cert.InProjIdeal.nD) → Buf (Elt Ideal) ((c.tc : Thread Cert.InProjIdeal.nD Cert.InProjIdeal.τ).loc Cert.InProjIdeal.main_v19_2)) (v3 : (c : Dev Cert.InProjIdeal.nD) → Buf (Elt Ideal) ((c.tc : Thread Cert.InProjIdeal.nD Cert.InProjIdeal.τ).loc Cert.InProjIdeal.main_v19_3)) (v4 : (c : Dev Cert.InProjIdeal.nD) → Buf (Elt Ideal) ((c.tc : Thread Cert.InProjIdeal.nD Cert.InProjIdeal.τ).loc Cert.InProjIdeal.main_v19_4)) (v5 : (c : Dev Cert.InProjIdeal.nD) → Buf (Elt Ideal) ((c.tc : Thread Cert.InProjIdeal.nD Cert.InProjIdeal.τ).loc Cert.InProjIdeal.main_v19_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v19_0) = v0 c
          ∧ r.2.mem ((c.tc : Thread Cert.InProjIdeal.nD Cert.InProjIdeal.τ).loc Cert.InProjIdeal.main_v19_1) = v1 c
          ∧ r.2.mem ((c.tc : Thread Cert.InProjIdeal.nD Cert.InProjIdeal.τ).loc Cert.InProjIdeal.main_v19_2) = v2 c
          ∧ r.2.mem ((c.tc : Thread Cert.InProjIdeal.nD Cert.InProjIdeal.τ).loc Cert.InProjIdeal.main_v19_3) = v3 c
          ∧ r.2.mem ((c.tc : Thread Cert.InProjIdeal.nD Cert.InProjIdeal.τ).loc Cert.InProjIdeal.main_v19_4) = v4 c
          ∧ r.2.mem ((c.tc : Thread Cert.InProjIdeal.nD Cert.InProjIdeal.τ).loc Cert.InProjIdeal.main_v19_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v27) = v0 c
          ∧ r.2.mem ((c.tc : Thread Cert.InProjRefIdeal.nD Cert.InProjRefIdeal.τ).loc Cert.InProjRefIdeal.main_v31) = v1 c
          ∧ r.2.mem ((c.tc : Thread Cert.InProjRefIdeal.nD Cert.InProjRefIdeal.τ).loc Cert.InProjRefIdeal.main_v32) = v2 c
          ∧ r.2.mem ((c.tc : Thread Cert.InProjRefIdeal.nD Cert.InProjRefIdeal.τ).loc Cert.InProjRefIdeal.main_v33) = v3 c
          ∧ r.2.mem ((c.tc : Thread Cert.InProjRefIdeal.nD Cert.InProjRefIdeal.τ).loc Cert.InProjRefIdeal.main_v35) = v4 c
          ∧ r.2.mem ((c.tc : Thread Cert.InProjRefIdeal.nD Cert.InProjRefIdeal.τ).loc Cert.InProjRefIdeal.main_v37) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Rwkv_RwkvIdeal : Prop :=
  True

def Claim : Prop :=
  ∃ (hPost : Cert.Post.Facts) (hPostIdeal : Cert.PostIdeal.Facts) (hPostRefIdeal : Cert.PostRefIdeal.Facts) (hInProj : Cert.InProj.Facts) (hInProjIdeal : Cert.InProjIdeal.Facts) (hInProjRefIdeal : Cert.InProjRefIdeal.Facts) (hRwkv : Cert.Rwkv.Facts) (hRwkvIdeal : Cert.RwkvIdeal.Facts) (hPre_finite : Cert.Pre_finite.Facts),
    quiescent_Post (hPost := hPost)
    ∧ quiescent_PostIdeal (hPostIdeal := hPostIdeal)
    ∧ quiescent_PostRefIdeal (hPostRefIdeal := hPostRefIdeal)
    ∧ quiescent_InProj (hInProj := hInProj)
    ∧ quiescent_InProjIdeal (hInProjIdeal := hInProjIdeal)
    ∧ quiescent_InProjIdeal_pre_finite (hInProjIdeal := hInProjIdeal) (hPre_finite := hPre_finite)
    ∧ quiescent_InProjRefIdeal (hInProjRefIdeal := hInProjRefIdeal)
    ∧ quiescent_InProjRefIdeal_pre_finite (hInProjRefIdeal := hInProjRefIdeal) (hPre_finite := hPre_finite)
    ∧ quiescent_Rwkv (hRwkv := hRwkv)
    ∧ quiescent_RwkvIdeal (hRwkvIdeal := hRwkvIdeal)
    ∧ preserves_Post_PostIdeal
    ∧ algebraic_PostIdeal_PostRefIdeal (hPostIdeal := hPostIdeal) (hPostRefIdeal := hPostRefIdeal)
    ∧ preserves_InProj_InProjIdeal
    ∧ algebraic_InProjIdeal_InProjRefIdeal_pre_finite (hInProjIdeal := hInProjIdeal) (hInProjRefIdeal := hInProjRefIdeal) (hPre_finite := hPre_finite)
    ∧ preserves_Rwkv_RwkvIdeal
-- ==== Pre_finite.lean ====
abbrev S8x2048x1024 : Shape := ⟨3, ![8, 2048, 1024]⟩
abbrev S1024 : Shape := ⟨1, ![1024]⟩
abbrev S1024x3912 : Shape := ⟨2, ![1024, 3912]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3912 : S_.BroadcastsInDim S1024x3912 (![] : Fin 0 → Fin S1024x3912.rank)
  reducesTo_S1024x3912_S_d0_1 : S1024x3912.ReducesTo [0, 1] S_

variable [Facts]

def fn {F : FTy → Type} [FloatOps F] (main_arg0 : FVec F S8x2048x1024 .f32) (main_arg1 : FVec F S1024 .f32) (main_arg2 : FVec F S1024x3912 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3912 .f32 := Host.absf main_arg2
  let main_cst_2 : FVec F S_ .f32 := constant S_ .f32 0x7F800000#32
  let main_v10 : FVec F S1024x3912 .f32 := broadcastInDim S1024x3912 ![] bcast_S_S1024x3912 main_cst_2
  let main_v11 : IVec S1024x3912 1 := cmpf .olt main_v9 main_v10
  let main_c_3 : IVec S_ 1 := constantI S_ 1 1#1
  let main_v12 : IVec S_ 1 := (fun x v => Host.reduce IntOp.andi x v reducesTo_S1024x3912_S_d0_1 h_S_) main_v11 main_c_3
  let main_v13 : IVec S_ 1 := andi main_v8 main_v12
  main_v13
-- ==== Post.lean ====
abbrev S8x2048x512 : Shape := ⟨3, ![8, 2048, 512]⟩
abbrev S8x2048x1024 : Shape := ⟨3, ![8, 2048, 1024]⟩
abbrev S8x2048x256 : Shape := ⟨3, ![8, 2048, 256]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1024 : Shape := ⟨1, ![1024]⟩
abbrev S1x1024 : Shape := ⟨2, ![1, 1024]⟩
abbrev S16384x512 : Shape := ⟨2, ![16384, 512]⟩
abbrev S16384x1024 : Shape := ⟨2, ![16384, 1024]⟩
abbrev S16384x256 : Shape := ⟨2, ![16384, 256]⟩
abbrev S512x1024 : Shape := ⟨2, ![512, 1024]⟩
abbrev S1024x512 : Shape := ⟨2, ![1024, 512]⟩
abbrev S1024x256 : Shape := ⟨2, ![1024, 256]⟩
abbrev S1024x1 : Shape := ⟨2, ![1024, 1]⟩

abbrev nBuf : Space → Nat
  | .hbm => 32
  | .vmem => 21
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S8x2048x256, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16384x512, .bf16⟩
  | .hbm, ⟨20, _⟩ => ⟨S16384x512, .bf16⟩
  | .hbm, ⟨21, _⟩ => ⟨S16384x1024, .f32⟩
  | .hbm, ⟨22, _⟩ => ⟨S16384x256, .f32⟩
  | .hbm, ⟨23, _⟩ => ⟨S512x1024, .f32⟩
  | .hbm, ⟨24, _⟩ => ⟨S512x1024, .bf16⟩
  | .hbm, ⟨25, _⟩ => ⟨S512x1024, .f32⟩
  | .hbm, ⟨26, _⟩ => ⟨S512x1024, .bf16⟩
  | .hbm, ⟨27, _⟩ => ⟨S1024x4096, .bf16⟩
  | .hbm, ⟨28, _⟩ => ⟨S4096x1024, .bf16⟩
  | .hbm, ⟨29, _⟩ => ⟨S256x1024, .bf16⟩
  | .hbm, ⟨30, _⟩ => ⟨S1024x1024, .bf16⟩
  | .hbm, ⟨31, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S512x1024, .bf16⟩
  | .local _ .vmem, ⟨9, _⟩ => ⟨S512x1024, .bf16⟩
  | .local _ .vmem, ⟨10, _⟩ => ⟨S1024x4096, .bf16⟩
  | .local _ .vmem, ⟨11, _⟩ => ⟨S4096x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostRefIdeal.lean ====
abbrev S8x2048x512 : Shape := ⟨3, ![8, 2048, 512]⟩
abbrev S8x2048x1024 : Shape := ⟨3, ![8, 2048, 1024]⟩
abbrev S8x2048x256 : Shape := ⟨3, ![8, 2048, 256]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S8x2048x256, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S8x2048x512, .f32⟩
  | .hbm, ⟨15, _⟩ => ⟨S8x2048x512, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S8x2048x4096, .f32⟩
  | .hbm, ⟨52, _⟩ => ⟨S_, .f32⟩
  | .hbm, ⟨53, _⟩ => ⟨S8x2048x4096, .f32⟩
  | .hbm, ⟨54, _⟩ => ⟨S8x2048x4096, .f32⟩
  | .hbm, ⟨55, _⟩ => ⟨S8x2048x4096, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1, .f32⟩
  | .hbm, ⟨68, _⟩ => ⟨S8x2048x1024, .f32⟩
  | .hbm, ⟨69, _⟩ => ⟨S8x2048x1024, .f32⟩
  | .hbm, ⟨70, _⟩ => ⟨S1x1x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x1024, .f32⟩
  | .hbm, ⟨86, _⟩ => ⟨S8x2048x1024, .f32⟩
  | .hbm, ⟨87, _⟩ => ⟨S1x1x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S_, .f32⟩
  | .hbm, ⟨94, _⟩ => ⟨S8x2048x1024, .f32⟩
  | .hbm, ⟨95, _⟩ => ⟨S8x2048x1024, .f32⟩
  | .hbm, ⟨96, _⟩ => ⟨S_, .f32⟩
  | .hbm, ⟨97, _⟩ => ⟨S8x2048x1024, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S_, .f32⟩
  | .hbm, ⟨103, _⟩ => ⟨S8x2048, .f32⟩
  | .hbm, ⟨104, _⟩ => ⟨S8x2048x1, .f32⟩
  | .hbm, ⟨105, _⟩ => ⟨S_, .f32⟩
  | .hbm, ⟨106, _⟩ => ⟨S8x2048x1, .f32⟩
  | .hbm, ⟨107, _⟩ => ⟨S8x2048x1, .f32⟩
  | .hbm, ⟨108, _⟩ => ⟨S_, .f32⟩
  | .hbm, ⟨109, _⟩ => ⟨S8x2048x1, .f32⟩
  | .hbm, ⟨110, _⟩ => ⟨S8x2048x1, .f32⟩
  | .hbm, ⟨111, _⟩ => ⟨S8x2048x1, .f32⟩
  | .hbm, ⟨112, _⟩ => ⟨S8x2048x1024, .f32⟩
  | .hbm, ⟨113, _⟩ => ⟨S8x2048x1024, .f32⟩
  | .hbm, ⟨114, _⟩ => ⟨S1x1x1024, .f32⟩
  | .hbm, ⟨115, _⟩ => ⟨S8x2048x1024, .f32⟩
  | .hbm, ⟨116, _⟩ => ⟨S8x2048x1024, .f32⟩
  | .hbm, ⟨117, _⟩ => ⟨S8x2048x1024, .f32⟩
  | .hbm, ⟨118, _⟩ => ⟨S16384x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_13 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S1024x3912 : Shape := ⟨2, ![1024, 3912]⟩
abbrev S1024x1792 : Shape := ⟨2, ![1024, 1792]⟩
abbrev S1024x512 : Shape := ⟨2, ![1024, 512]⟩
abbrev S1024x64 : Shape := ⟨2, ![1024, 64]⟩
abbrev S1024x128 : Shape := ⟨2, ![1024, 128]⟩
abbrev S1024x1536 : Shape := ⟨2, ![1024, 1536]⟩
abbrev S1024x3328 : Shape := ⟨2, ![1024, 3328]⟩
abbrev S1024x584 : Shape := ⟨2, ![1024, 584]⟩
abbrev S_ : Shape := ⟨0, ![]⟩
abbrev S1024x640 : Shape := ⟨2, ![1024, 640]⟩
abbrev S16384x1024 : Shape := ⟨2, ![16384, 1024]⟩
abbrev S1x1024 : Shape := ⟨2, ![1, 1024]⟩
abbrev S16384x1792 : Shape := ⟨2, ![16384, 1792]⟩
abbrev S16384x512 : Shape := ⟨2, ![16384, 512]⟩
abbrev S8x16384x192 : Shape := ⟨3, ![8, 16384, 192]⟩
abbrev S16384x128 : Shape := ⟨2, ![16384, 128]⟩
abbrev S1024x1024 : Shape := ⟨2, ![1024, 1024]⟩
abbrev S8x1024x192 : Shape := ⟨3, ![8, 1024, 192]⟩
abbrev S1024x1 : Shape := ⟨2, ![1024, 1]⟩
abbrev S1024x192 : Shape := ⟨2, ![1024, 192]⟩
abbrev S1x1024x192 : Shape := ⟨3, ![1, 1024, 192]⟩

abbrev nBuf : Space → Nat
  | .hbm => 30
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3912, .f32⟩
  | .hbm, ⟨3, _⟩ => ⟨S1024x1792, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x64, .f32⟩
  | .hbm, ⟨8, _⟩ => ⟨S1024x64, .f32⟩
  | .hbm, ⟨9, _⟩ => ⟨S1024x128, .f32⟩
  | .hbm, ⟨10, _⟩ => ⟨S1024x1792, .f32⟩
  | .hbm, ⟨11, _⟩ => ⟨S1024x1536, .f32⟩
  | .hbm, ⟨12, _⟩ => ⟨S1024x3328, .f32⟩
  | .hbm, ⟨13, _⟩ => ⟨S1024x3328, .bf16⟩
  | .hbm, ⟨14, _⟩ => ⟨S1024x584, .f32⟩
  | .hbm, ⟨15, _⟩ => ⟨S_, .i32⟩
  | .hbm, ⟨16, _⟩ => ⟨S_, .f32⟩
  | .hbm, ⟨17, _⟩ => ⟨S1024x640, .f32⟩
  | .hbm, ⟨18, _⟩ => ⟨S1024x640, .bf16⟩
  | .hbm, ⟨19, _⟩ => ⟨S1024x640, .f32⟩
  | .hbm, ⟨20, _⟩ => ⟨S1024x640, .f32⟩
  | .hbm, ⟨21, _⟩ => ⟨S1024x640, .bf16⟩
  | .hbm, ⟨22, _⟩ => ⟨S16384x1024, .f32⟩
  | .hbm, ⟨23, _⟩ => ⟨S1x1024, .f32⟩
  | .hbm, ⟨24, _⟩ => ⟨S16384x1792, .f32⟩
  | .hbm, ⟨25, _⟩ => ⟨S16384x512, .bf16⟩
  | .hbm, ⟨26, _⟩ => ⟨S16384x512, .bf16⟩
  | .hbm, ⟨27, _⟩ => ⟨S16384x512, .bf16⟩
  | .hbm, ⟨28, _⟩ => ⟨S8x16384x192, .bf16⟩
  | .hbm, ⟨29, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3328, .bf16⟩
  | .local _ .vmem, ⟨4, _⟩ => ⟨S1024x640, .bf16⟩
  | .local _ .vmem, ⟨5, _⟩ => ⟨S1024x640, .bf16⟩
  | .local _ .vmem, ⟨6, _⟩ => ⟨S1024x1792, .f32⟩
  | .local _ .vmem, ⟨7, _⟩ => ⟨S1024x1792, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S8x1024x192, .bf16⟩
  | .local _ .vmem, ⟨15, _⟩ => ⟨S8x1024x192, .bf16⟩
  | .local _ .vmem, ⟨16, _⟩ => ⟨S1024x128, .f32⟩
  | .local _ .vmem, ⟨17, _⟩ => ⟨S1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S8x2048x1024 : Shape := ⟨3, ![8, 2048, 1024]⟩
abbrev S1024 : Shape := ⟨1, ![1024]⟩
abbrev S1024x3912 : Shape := ⟨2, ![1024, 3912]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3912 : Shape := ⟨3, ![8, 2048, 3912]⟩
abbrev S16384x3912 : Shape := ⟨2, ![16384, 3912]⟩
abbrev S16384x512 : Shape := ⟨2, ![16384, 512]⟩
abbrev S16384x64 : Shape := ⟨2, ![16384, 64]⟩
abbrev S16384x128 : Shape := ⟨2, ![16384, 128]⟩
abbrev S16384x8 : Shape := ⟨2, ![16384, 8]⟩
abbrev S16384x1792 : Shape := ⟨2, ![16384, 1792]⟩
abbrev S16384x8x64 : Shape := ⟨3, ![16384, 8, 64]⟩
abbrev S8x16384x64 : Shape := ⟨3, ![8, 16384, 64]⟩
abbrev S8x16384x192 : Shape := ⟨3, ![8, 16384, 192]⟩
abbrev S16384x56 : Shape := ⟨2, ![16384, 56]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3912, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3912, .f32⟩
  | .hbm, ⟨20, _⟩ => ⟨S16384x3912, .f32⟩
  | .hbm, ⟨21, _⟩ => ⟨S16384x512, .f32⟩
  | .hbm, ⟨22, _⟩ => ⟨S16384x64, .f32⟩
  | .hbm, ⟨23, _⟩ => ⟨S16384x512, .f32⟩
  | .hbm, ⟨24, _⟩ => ⟨S16384x512, .f32⟩
  | .hbm, ⟨25, _⟩ => ⟨S16384x64, .f32⟩
  | .hbm, ⟨26, _⟩ => ⟨S16384x128, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x64, .f32⟩
  | .hbm, ⟨32, _⟩ => ⟨S16384x8, .f32⟩
  | .hbm, ⟨33, _⟩ => ⟨S16384x1792, .f32⟩
  | .hbm, ⟨34, _⟩ => ⟨S16384x8x64, .f32⟩
  | .hbm, ⟨35, _⟩ => ⟨S8x16384x64, .f32⟩
  | .hbm, ⟨36, _⟩ => ⟨S8x16384x64, .bf16⟩
  | .hbm, ⟨37, _⟩ => ⟨S16384x512, .bf16⟩
  | .hbm, ⟨38, _⟩ => ⟨S16384x512, .bf16⟩
  | .hbm, ⟨39, _⟩ => ⟨S16384x512, .bf16⟩
  | .hbm, ⟨40, _⟩ => ⟨S_, .bf16⟩
  | .hbm, ⟨41, _⟩ => ⟨S8x16384x64, .bf16⟩
  | .hbm, ⟨42, _⟩ => ⟨S8x16384x192, .bf16⟩
  | .hbm, ⟨43, _⟩ => ⟨S_, .f32⟩
  | .hbm, ⟨44, _⟩ => ⟨S16384x56, .f32⟩
  | .hbm, ⟨45, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Rwkv.lean ====
abbrev S8x2048x1792 : Shape := ⟨3, ![8, 2048, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S64x1024 : Shape := ⟨2, ![64, 1024]⟩
abbrev S128x1024 : Shape := ⟨2, ![128, 1024]⟩
abbrev S8x2048x512 : Shape := ⟨3, ![8, 2048, 512]⟩
abbrev S8x2048x64 : Shape := ⟨3, ![8, 2048, 64]⟩
abbrev S8x2048x128 : Shape := ⟨3, ![8, 2048, 128]⟩
abbrev S64 : Shape := ⟨1, ![64]⟩
abbrev S128 : Shape := ⟨1, ![128]⟩
abbrev S1x1792 : Shape := ⟨2, ![1, 1792]⟩
abbrev S1x512 : Shape := ⟨2, ![1, 512]⟩
abbrev S8x64x1792 : Shape := ⟨3, ![8, 64, 1792]⟩
abbrev S8x64x512 : Shape := ⟨3, ![8, 64, 512]⟩
abbrev S8x1x1792 : Shape := ⟨3, ![8, 1, 1792]⟩
abbrev S8x2x256x256 : Shape := ⟨4, ![8, 2, 256, 256]⟩
abbrev S64x256 : Shape := ⟨2, ![64, 256]⟩
abbrev S256x256 : Shape := ⟨2, ![256, 256]⟩
abbrev S4x64x1792 : Shape := ⟨3, ![4, 64, 1792]⟩
abbrev S256x1792 : Shape := ⟨2, ![256, 1792]⟩
abbrev S8x1792 : Shape := ⟨2, ![8, 1792]⟩
abbrev S1x1x1792 : Shape := ⟨3, ![1, 1, 1792]⟩
abbrev S56x1792 : Shape := ⟨2, ![56, 1792]⟩
abbrev S256x512 : Shape := ⟨2, ![256, 512]⟩
abbrev S256x128 : Shape := ⟨2, ![256, 128]⟩
abbrev S256x1024 : Shape := ⟨2, ![256, 1024]⟩
abbrev S128x128 : Shape := ⟨2, ![128, 128]⟩
abbrev S1024x128 : Shape := ⟨2, ![1024, 128]⟩
abbrev S128x256 : Shape := ⟨2, ![128, 256]⟩
abbrev S1x1x256x256 : Shape := ⟨4, ![1, 1, 256, 256]⟩
abbrev S1x256 : Shape := ⟨2, ![1, 256]⟩
abbrev S4x64x512 : Shape := ⟨3, ![4, 64, 512]⟩

abbrev nBuf : Space → Nat
  | .hbm => 42
  | .vmem => 16
  | .smem => 0
  | _ => 0

abbrev bufTy : (tb : Table) → Fin (tcTables nBuf tb) → BufTy
  | .hbm, ⟨0, _⟩ => ⟨S8x2048x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S64x512, .f32⟩
  | .hbm, ⟨14, _⟩ => ⟨S64x1024, .f32⟩
  | .hbm, ⟨15, _⟩ => ⟨S64x1024, .f32⟩
  | .hbm, ⟨16, _⟩ => ⟨S128x1024, .f32⟩
  | .hbm, ⟨17, _⟩ => ⟨S128x1024, .bf16⟩
  | .hbm, ⟨18, _⟩ => ⟨S8x2048x512, .f32⟩
  | .hbm, ⟨19, _⟩ => ⟨S8x2048x512, .f32⟩
  | .hbm, ⟨20, _⟩ => ⟨S8x2048x512, .f32⟩
  | .hbm, ⟨21, _⟩ => ⟨S8x2048x64, .f32⟩
  | .hbm, ⟨22, _⟩ => ⟨S8x2048x64, .f32⟩
  | .hbm, ⟨23, _⟩ => ⟨S8x2048x128, .f32⟩
  | .hbm, ⟨24, _⟩ => ⟨S8x2048x1792, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S64, .f32⟩
  | .hbm, ⟨29, _⟩ => ⟨S64, .f32⟩
  | .hbm, ⟨30, _⟩ => ⟨S128, .f32⟩
  | .hbm, ⟨31, _⟩ => ⟨S1792, .f32⟩
  | .hbm, ⟨32, _⟩ => ⟨S1x1792, .f32⟩
  | .hbm, ⟨33, _⟩ => ⟨S1x512, .f32⟩
  | .hbm, ⟨34, _⟩ => ⟨S1x512, .f32⟩
  | .hbm, ⟨35, _⟩ => ⟨S128x512, .bf16⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S8x2048x512, .bf16⟩
  | .local _ .vmem, ⟨0, _⟩ => ⟨S8x64x1792, .f32⟩
  | .local _ .vmem, ⟨1, _⟩ => ⟨S8x64x1792, .f32⟩
  | .local _ .vmem, ⟨2, _⟩ => ⟨S1x1792, .f32⟩
  | .local _ .vmem, ⟨3, _⟩ => ⟨S1x512, .f32⟩
  | .local _ .vmem, ⟨4, _⟩ => ⟨S128x1024, .bf16⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S8x64x512, .bf16⟩
  | .local _ .vmem, ⟨13, _⟩ => ⟨S8x64x512, .bf16⟩
  | .local _ .vmem, ⟨14, _⟩ => ⟨S8x1x1792, .f32⟩
  | .local _ .vmem, ⟨15, _⟩ => ⟨S8x2x256x256, .f32⟩
  | _, _ => ⟨S8x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.Rows.lean ====
/-
  The arithmetic of one row of the layer's tail, over the extended reals, with no program in sight. Both the kernel and the
  reference are read as these functions of the row's operands, so a claim compares rows and never programs.
-/
module

public import Idealize.ShloMosaic.PureOps.Ideal.Laws

@[expose] public section

noncomputable section

namespace Cert.Proof.Rows

open Idealize.ShloMosaic

/-- The mean of the squares of a row of 1024 entries plus the small constant, both constants as the programs write them. -/
def meanSq (f : Fin 1024 → EReal) : EReal :=
  Ideal.div (∑ k, f k * f k) (Ideal.ofBits FTy.f32 1149239296#32) + Ideal.ofBits FTy.f32 897988541#32

/-- The row divided by the root of its mean square, times a gain. -/
def rms (f g : Fin 1024 → EReal) (j : Fin 1024) : EReal := f j * Ideal.rsqrt (meanSq f) * g j

/-- A row times a matrix. -/
def lin {n k : ℕ} (f : Fin n → EReal) (w : Fin n → Fin k → EReal) (j : Fin k) : EReal := ∑ i, f i * w i j

/-- The residual row plus the normed mix of the two mixers' rows: each mixer meets its half of the output matrix. -/
def mixRow (y1 y2 : Fin 512 → EReal) (x : Fin 1024 → EReal) (wa wb : Fin 512 → Fin 1024 → EReal) (g : Fin 1024 → EReal)
    (j : Fin 1024) : EReal :=
  x j + rms (fun l => lin y1 wa l + lin y2 wb l) g j

/-- The feed-forward step on a row: norm, first matrix, squared positive part, second matrix, norm, residual. -/
def ffnRow (x g1 : Fin 1024 → EReal) (w1 : Fin 1024 → Fin 4096 → EReal) (w2 : Fin 4096 → Fin 1024 → EReal)
    (g2 : Fin 1024 → EReal) (j : Fin 1024) : EReal :=
  x j + rms (lin (fun l => max (lin (rms x g1) w1 l) 0 * max (lin (rms x g1) w1 l) 0) w2) g2 j

/-- The gated embedding step on a row: the embedding's product times the gate of the normed row, norm, residual. -/
def pleRow (x : Fin 1024 → EReal) (p : Fin 256 → EReal) (g1 : Fin 1024 → EReal) (wp : Fin 256 → Fin 1024 → EReal)
    (wg : Fin 1024 → Fin 1024 → EReal) (g2 : Fin 1024 → EReal) (j : Fin 1024) : EReal :=
  x j + rms (fun l => lin p wp l * Ideal.div 1 (1 + Ideal.exp (-lin (rms x g1) wg l))) g2 j

/-- A row times a matrix, the row being two rows of 512 one after the other, is the sum of the two halves' products. -/
theorem lin_halves (f : Fin 1024 → EReal) (w : Fin 1024 → Fin 1024 → EReal) (j : Fin 1024) :
    lin f w j = lin (fun i : Fin 512 => f ⟨i, by omega⟩) (fun i => w ⟨i, by omega⟩) j
      + lin (fun i : Fin 512 => f ⟨512 + i, by omega⟩) (fun i => w ⟨512 + i, by omega⟩) j :=
  Fin.sum_univ_add (a := 512) (b := 512) fun i => f i * w i j

end Cert.Proof.Rows

end
-- ==== Proof.PostPayload.lean ====
/-
  What the tail kernel's body computes of its blocks, read at row `r` and column `j` of a block: the row functions of
  `Rows.lean` of the blocks' rows.
-/
module

public import proofs.«01_k».proof.Proof.Gen.PostIdeal.Skeleton
public import proofs.«01_k».proof.Proof.Rows
public import Idealize.ShloMosaic.Lib.Pointwise

@[expose] public section

set_option maxRecDepth 16384

noncomputable section

namespace Cert.Proof.Post

open Cert.PostIdeal Cert.PostIdeal.Gen Cert.Proof.Rows Idealize.ShloMosaic Idealize.ShloMosaic.Pointwise

/-- The row after the mix. -/
theorem mix_apply (v0 : Vec Ideal S1024x512 .bf16) (v2 : Vec Ideal S512x1024 .bf16) (v5 : Vec Ideal S1024x512 .bf16)
    (v7 : Vec Ideal S512x1024 .bf16) (v11 : Vec Ideal S1024x1024 .f32) (v13 : Vec Ideal S1x1024 .f32) (r j : Fin 1024) :
    k0_pay2 v0 v2 v5 v7 v11 v13 (ix2 r j)
      = mixRow (fun k => v0 (ix2 r k)) (fun k => v5 (ix2 r k)) (fun k => v11 (ix2 r k)) (fun k l => v2 (ix2 k l))
          (fun k l => v7 (ix2 k l)) (fun k => v13 (ix2 0 k)) j := by
  pointwise [k0_pay2]
  rfl

/-- The mean square of the row after the mix. -/
theorem mix_meanSq (v0 : Vec Ideal S1024x512 .bf16) (v2 : Vec Ideal S512x1024 .bf16) (v5 : Vec Ideal S1024x512 .bf16)
    (v7 : Vec Ideal S512x1024 .bf16) (v11 : Vec Ideal S1024x1024 .f32) (v13 : Vec Ideal S1x1024 .f32) (r : Fin 1024) :
    k0_pay4 v0 v2 v5 v7 v11 v13 (ix2 r 0) = meanSq fun k => k0_pay2 v0 v2 v5 v7 v11 v13 (ix2 r k) := by
  pointwise [k0_pay4]
  rfl

/-- The row after the feed-forward step, from the row before it and that row's mean square. -/
theorem ffn_apply (v27 : FVec Ideal S1024x1024 .f32) (v29 : FVec Ideal S1x1024 .f32) (v36 : FVec Ideal S1024x1 .f32)
    (v43 : Vec Ideal S1024x4096 .bf16) (v50 : Vec Ideal S4096x1024 .bf16) (v53 : Vec Ideal S1x1024 .f32) (r j : Fin 1024)
    (h : v36 (ix2 r 0) = meanSq fun k => v27 (ix2 r k)) :
    k0_pay5 v27 v29 v36 v43 v50 v53 (ix2 r j)
      = ffnRow (fun k => v27 (ix2 r k)) (fun k => v29 (ix2 0 k)) (fun k l => v43 (ix2 k l)) (fun k l => v50 (ix2 k l))
          (fun k => v53 (ix2 0 k)) j := by
  pointwise [k0_pay5]
  simp only [h]
  rfl

/-- The row after the feed-forward step divided by its root mean square. -/
theorem ffn_normed (v27 : FVec Ideal S1024x1024 .f32) (v29 : FVec Ideal S1x1024 .f32) (v36 : FVec Ideal S1024x1 .f32)
    (v43 : Vec Ideal S1024x4096 .bf16) (v50 : Vec Ideal S4096x1024 .bf16) (v53 : Vec Ideal S1x1024 .f32) (r j : Fin 1024) :
    k0_pay7 v27 v29 v36 v43 v50 v53 (ix2 r j)
      = k0_pay5 v27 v29 v36 v43 v50 v53 (ix2 r j)
        * Ideal.rsqrt (meanSq fun k => k0_pay5 v27 v29 v36 v43 v50 v53 (ix2 r k)) := by
  pointwise [k0_pay7]
  rfl

/-- The row after the gated embedding, from the row before it and that row divided by its root mean square. -/
theorem ple_apply (v67 : FVec Ideal S1024x1024 .f32) (v69 : FVec Ideal S1x1024 .f32) (v79 : FVec Ideal S1024x1024 .f32)
    (v83 : Vec Ideal S1024x1024 .bf16) (v93 : Vec Ideal S1024x256 .f32) (v96 : Vec Ideal S256x1024 .bf16)
    (v100 : Vec Ideal S1x1024 .f32) (r j : Fin 1024)
    (h : ∀ k, v79 (ix2 r k) = v67 (ix2 r k) * Ideal.rsqrt (meanSq fun k => v67 (ix2 r k))) :
    k0_pay1 v67 v69 v79 v83 v93 v96 v100 (ix2 r j)
      = pleRow (fun k => v67 (ix2 r k)) (fun k => v93 (ix2 r k)) (fun k => v69 (ix2 0 k)) (fun k l => v96 (ix2 k l))
          (fun k l => v83 (ix2 k l)) (fun k => v100 (ix2 0 k)) j := by
  pointwise [k0_pay1]
  simp only [h, zero_sub]
  rfl

/-- The three gains loaded for later use are read as they lie. -/
theorem gain_apply (v : Vec Ideal S1x1024 .f32) (j : Fin 1024) :
    k0_pay3 v (ix2 0 j) = v (ix2 0 j) ∧ k0_pay6 v (ix2 0 j) = v (ix2 0 j) := by
  constructor <;> pointwise [k0_pay3, k0_pay6]

end Cert.Proof.Post

end
-- ==== Proof.PostRows.lean ====
/-
  The tail's reference read row by row: its result at row `b * 2048 + s` and column `j` is the row functions of `Rows.lean`
  of the arguments' rows at batch `b` and position `s`.
-/
module

public import proofs.«01_k».proof.Proof.Gen.PostRefIdeal.Read
public import proofs.«01_k».proof.Proof.Rows
public import Idealize.ShloMosaic.Lib.Pointwise

@[expose] public section

set_option maxRecDepth 16384

noncomputable section

namespace Cert.Proof.PostRef

open Cert.PostRefIdeal Cert.PostRefIdeal.Read Cert.Proof.Rows Idealize.ShloMosaic Idealize.ShloMosaic.Pointwise

variable (x0 x1 : (⟨S8x2048x512, .bf16⟩ : BufTy).Contents (Elt Ideal)) (x2 : (⟨S8x2048x1024, .f32⟩ : BufTy).Contents (Elt Ideal)) (x3 : (⟨S8x2048x256, .f32⟩ : BufTy).Contents (Elt Ideal)) (x4 : (⟨S1024x1024, .f32⟩ : BufTy).Contents (Elt Ideal)) (x5 : (⟨S1024x4096, .f32⟩ : BufTy).Contents (Elt Ideal)) (x6 : (⟨S4096x1024, .f32⟩ : BufTy).Contents (Elt Ideal)) (x7 : (⟨S256x1024, .f32⟩ : BufTy).Contents (Elt Ideal)) (x8 : (⟨S1024x1024, .f32⟩ : BufTy).Contents (Elt Ideal)) (x9 x10 x11 x12 x13 : (⟨S1024, .f32⟩ : BufTy).Contents (Elt Ideal))

/-- The mixers' joined outputs times the output matrix, the two halves of the joined row apart. -/
theorem out_apply (b : Fin 8) (s : Fin 2048) (j : Fin 1024) :
    val_main_v3 (F := Ideal) x0 x1 x4 (ix3 b s j)
      = lin (fun k => x0 (ix3 b s k)) (fun (k : Fin 512) l => x4 (ix2 ⟨k, by omega⟩ l)) j
        + lin (fun k => x1 (ix3 b s k)) (fun (k : Fin 512) l => x4 (ix2 ⟨512 + k, by omega⟩ l)) j := by
  have h : val_main_v3 (F := Ideal) x0 x1 x4 (ix3 b s j)
      = lin (fun k => val_main_v2 (F := Ideal) x0 x1 (ix3 b s k)) (fun k l => x4 (ix2 k l)) j := by
    pointwise [val_main_v3]
    rfl
  rw [h, lin_halves]
  congr 1
  · refine Finset.sum_congr rfl fun k _ => ?_
    congr 1
    pointwise [val_main_v2, val_main_v0]
  · refine Finset.sum_congr rfl fun k _ => ?_
    congr 1
    pointwise [val_main_v2, val_main_v1]

/-- The row after the mix. -/
theorem mix_apply (b : Fin 8) (s : Fin 2048) (j : Fin 1024) :
    val_main_v17 (F := Ideal) x0 x1 x2 x4 x9 (ix3 b s j)
      = x2 (ix3 b s j) + rms (fun l => val_main_v3 (F := Ideal) x0 x1 x4 (ix3 b s l)) (fun k => x9 (ix1 k)) j := by
  pointwise [val_main_v17, val_main_v16, val_main_v15, val_main_v14, val_main_v13, val_main_v12, val_main_v11,
    val_main_v10, val_main_v9, val_main_cst_1, val_main_v8, val_main_v7, val_main_cst_0, val_main_v6, val_main_v5,
    val_main_cst, val_main_v4]
  rfl

/-- The row normed before the feed-forward step. -/
theorem ffnNormed_apply (b : Fin 8) (s : Fin 2048) (j : Fin 1024) :
    val_main_v30 (F := Ideal) x0 x1 x2 x4 x9 x10 (ix3 b s j)
      = rms (fun l => val_main_v17 (F := Ideal) x0 x1 x2 x4 x9 (ix3 b s l)) (fun k => x10 (ix1 k)) j := by
  pointwise [val_main_v30, val_main_v29, val_main_v28, val_main_v27, val_main_v26, val_main_v25, val_main_v24,
    val_main_v23, val_main_cst_4, val_main_v22, val_main_v21, val_main_cst_3, val_main_v20, val_main_v19,
    val_main_cst_2, val_main_v18]
  rfl

/-- The feed-forward product of the normed row. -/
theorem ffnProduct_apply (b : Fin 8) (s : Fin 2048) (j : Fin 1024) :
    val_main_v34 (F := Ideal) x0 x1 x2 x4 x5 x6 x9 x10 (ix3 b s j)
      = lin (fun l =>
            max (lin (fun k => val_main_v30 (F := Ideal) x0 x1 x2 x4 x9 x10 (ix3 b s k)) (fun k l => x5 (ix2 k l)) l) 0
          * max (lin (fun k => val_main_v30 (F := Ideal) x0 x1 x2 x4 x9 x10 (ix3 b s k)) (fun k l => x5 (ix2 k l)) l) 0)
          (fun k l => x6 (ix2 k l)) j := by
  pointwise [val_main_v34, val_main_v33, val_main_v32, val_main_v31, val_main_call0_v0, val_main_call0_cst]
  rfl

/-- The row after the feed-forward step. -/
theorem ffn_apply (b : Fin 8) (s : Fin 2048) (j : Fin 1024) :
    val_main_v48 (F := Ideal) x0 x1 x2 x4 x5 x6 x9 x10 x11 (ix3 b s j)
      = ffnRow (fun l => val_main_v17 (F := Ideal) x0 x1 x2 x4 x9 (ix3 b s l)) (fun k => x10 (ix1 k))
          (fun k l => x5 (ix2 k l)) (fun k l => x6 (ix2 k l)) (fun k => x11 (ix1 k)) j := by
  pointwise [val_main_v48, val_main_v47, val_main_v46, val_main_v45, val_main_v44, val_main_v43, val_main_v42,
    val_main_v41, val_main_v40, val_main_cst_7, val_main_v39, val_main_v38, val_main_cst_6, val_main_v37,
    val_main_v36, val_main_cst_5, val_main_v35]
  simp only [ffnProduct_apply, ffnNormed_apply]
  rfl

/-- The row normed before the gate. -/
theorem gateNormed_apply (b : Fin 8) (s : Fin 2048) (j : Fin 1024) :
    val_main_v61 (F := Ideal) x0 x1 x2 x4 x5 x6 x9 x10 x11 x12 (ix3 b s j)
      = rms (fun l => val_main_v48 (F := Ideal) x0 x1 x2 x4 x5 x6 x9 x10 x11 (ix3 b s l)) (fun k => x12 (ix1 k)) j := by
  pointwise [val_main_v61, val_main_v60, val_main_v59, val_main_v58, val_main_v57, val_main_v56, val_main_v55,
    val_main_v54, val_main_cst_10, val_main_v53, val_main_v52, val_main_cst_9, val_main_v51, val_main_v50,
    val_main_cst_8, val_main_v49]
  rfl

/-- The gated embedding before its norm. -/
theorem gated_apply (b : Fin 8) (s : Fin 2048) (j : Fin 1024) :
    val_main_v70 (F := Ideal) x0 x1 x2 x3 x4 x5 x6 x7 x8 x9 x10 x11 x12 (ix3 b s j)
      = lin (fun k => x3 (ix3 b s k)) (fun k l => x7 (ix2 k l)) j
        * Ideal.div 1 (1 + Ideal.exp (-lin (fun k => val_main_v61 (F := Ideal) x0 x1 x2 x4 x5 x6 x9 x10 x11 x12 (ix3 b s k))
            (fun k l => x8 (ix2 k l)) j)) := by
  pointwise [val_main_v70, val_main_v69, val_main_v68, val_main_v67, val_main_cst_12, val_main_v66, val_main_v65,
    val_main_cst_11, val_main_v64, val_main_v63, val_main_v62]
  rfl

/-- The row after the gated embedding. -/
theorem ple_apply (b : Fin 8) (s : Fin 2048) (j : Fin 1024) :
    val_main_v84 (F := Ideal) x0 x1 x2 x3 x4 x5 x6 x7 x8 x9 x10 x11 x12 x13 (ix3 b s j)
      = pleRow (fun l => val_main_v48 (F := Ideal) x0 x1 x2 x4 x5 x6 x9 x10 x11 (ix3 b s l)) (fun k => x3 (ix3 b s k))
          (fun k => x12 (ix1 k)) (fun k l => x7 (ix2 k l)) (fun k l => x8 (ix2 k l)) (fun k => x13 (ix1 k)) j := by
  pointwise [val_main_v84, val_main_v83, val_main_v82, val_main_v81, val_main_v80, val_main_v79, val_main_v78,
    val_main_v77, val_main_v76, val_main_cst_15, val_main_v75, val_main_v74, val_main_cst_14, val_main_v73,
    val_main_v72, val_main_cst_13, val_main_v71]
  simp only [gated_apply, gateNormed_apply]
  rfl

/-- The reference's result, read at a batch, a position and a column: the three steps one after the other on the row. -/
theorem result_apply (b : Fin 8) (s : Fin 2048) (j : Fin 1024) :
    val_main_v84 (F := Ideal) x0 x1 x2 x3 x4 x5 x6 x7 x8 x9 x10 x11 x12 x13 (ix3 b s j)
      = pleRow
          (ffnRow
            (mixRow (fun k => x0 (ix3 b s k)) (fun k => x1 (ix3 b s k)) (fun k => x2 (ix3 b s k))
              (fun k l => x4 (ix2 ⟨k, by omega⟩ l)) (fun k l => x4 (ix2 ⟨512 + k, by omega⟩ l)) (fun k => x9 (ix1 k)))
            (fun k => x10 (ix1 k)) (fun k l => x5 (ix2 k l)) (fun k l => x6 (ix2 k l)) (fun k => x11 (ix1 k)))
          (fun k => x3 (ix3 b s k)) (fun k => x12 (ix1 k)) (fun k l => x7 (ix2 k l)) (fun k l => x8 (ix2 k l))
          (fun k => x13 (ix1 k)) j := by
  simp only [ple_apply, ffn_apply, mix_apply, out_apply]
  rfl

end Cert.Proof.PostRef

end
-- ==== Proof.PostValue.lean ====
/-
  The tail kernel's result array after its run: the reference's result of the same arguments, row by row.
-/
module

public import proofs.«01_k».proof.Proof.Gen.PostIdeal.Value
public import proofs.«01_k».proof.Proof.PostPayload
public import proofs.«01_k».proof.Proof.PostRows
public import Idealize.ShloMosaic.Lib.Pipeline.ValueKit
public import Idealize.ShloMosaic.Lib.Claim

@[expose] public section

set_option maxRecDepth 16384

noncomputable section

namespace Cert.Proof.Post

open Cert.PostIdeal Cert.PostIdeal.Gen Cert.Proof.Rows Idealize.ShloMosaic Idealize.ShloMosaic.Pointwise
open Idealize.ShloMosaic.TcCoe Idealize.SL.Sem
open Idealize.ShloMosaic.Pipeline (Dat Window)

/-- A rectangle written from the corner. -/
theorem corner : (![0, 0] : Fin 2 → Nat) = fun _ => 0 := funext fun a => by fin_cases a <;> rfl

/-- What the body leaves in the output block, at a row and a column, from the input blocks. -/
theorem out_apply (x0 x1 : Vec Ideal S1024x512 .bf16) (x2 : Vec Ideal S1024x1024 .f32) (x3 : Vec Ideal S1024x256 .f32)
    (x4 x5 : Vec Ideal S512x1024 .bf16) (x6 : Vec Ideal S1024x4096 .bf16) (x7 : Vec Ideal S4096x1024 .bf16)
    (x8 : Vec Ideal S256x1024 .bf16) (x9 : Vec Ideal S1024x1024 .bf16) (x10 x11 x12 x13 x14 : Vec Ideal S1x1024 .f32)
    (r j : Fin 1024) :
    out0_15 x0 x1 x2 x3 x4 x5 x6 x7 x8 x9 x10 x11 x12 x13 x14 (ix2 r j)
      = pleRow
          (ffnRow
            (mixRow (fun k => x0 (ix2 r k)) (fun k => x1 (ix2 r k)) (fun k => x2 (ix2 r k)) (fun k l => x4 (ix2 k l))
              (fun k l => x5 (ix2 k l)) (fun k => x10 (ix2 0 k)))
            (fun k => x11 (ix2 0 k)) (fun k l => x6 (ix2 k l)) (fun k l => x7 (ix2 k l)) (fun k => x12 (ix2 0 k)))
          (fun k => x3 (ix2 r k)) (fun k => x13 (ix2 0 k)) (fun k l => x8 (ix2 k l)) (fun k l => x9 (ix2 k l))
          (fun k => x14 (ix2 0 k)) j := by
  unfold out0_15
  rw [View.canon_unit_zero corner]
  unfold k0_pay8 k0_pay9 k0_pay10
  rw [View.ld_unit_zero (S := S1024x512) corner, View.ld_unit_zero (S := S1024x512) corner,
    View.ld_unit_zero (S := S512x1024) corner, View.ld_unit_zero (S := S512x1024) corner,
    View.ld_unit_zero (S := S1024x1024) corner, View.ld_unit_zero (S := S1024x1024) corner,
    View.ld_unit_zero (S := S1024x4096) corner, View.ld_unit_zero (S := S4096x1024) corner,
    View.ld_unit_zero (S := S1024x256) corner, View.ld_unit_zero (S := S256x1024) corner,
    View.ld_unit_zero (S := S1x1024) corner, View.ld_unit_zero (S := S1x1024) corner,
    View.ld_unit_zero (S := S1x1024) corner, View.ld_unit_zero (S := S1x1024) corner,
    View.ld_unit_zero (S := S1x1024) corner]
  have h : k0_pay4 x0 x4 x1 x5 x2 x10 (ix2 r 0) = meanSq fun k => k0_pay2 x0 x4 x1 x5 x2 x10 (ix2 r k) :=
    mix_meanSq _ _ _ _ _ _ r
  rw [ple_apply _ _ _ _ _ _ _ r j fun k => ffn_normed _ _ _ _ _ _ r k]
  simp only [ffn_apply _ _ _ _ _ _ r _ h, mix_apply, (gain_apply _ _).1, (gain_apply _ _).2]

variable (m : (ℓ : Loc nD τ sig) → Buf (Elt Ideal) ℓ) (ρ : Dev nD → PrngReg)

/-- The reference's result of the kernel's arguments. -/
def result (c : Dev nD) : Buf (Elt Ideal) ((c : Thread nD τ).loc main_v17) :=
  Cert.PostRefIdeal.Read.val_main_v85 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

/-- Where each window's block lies at a grid point: the rows move with the point, weights and gains stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] :=
  (by decide +kernel : ∀ t : Fin grid0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![t.val, 0])

/-- The batch of a row of the flattened arrays. -/
abbrev batch (t : Fin cfg0.N) (r : Fin 1024) : Fin 8 :=
  ⟨(t.val * 1024 + r.val) / 2048, by have := t.isLt; have : cfg0.N = 16 := N_0; omega⟩

/-- The position of a row of the flattened arrays in its batch. -/
abbrev position (t : Fin cfg0.N) (r : Fin 1024) : Fin 2048 := ⟨(t.val * 1024 + r.val) % 2048, by omega⟩

/-- A point's block of the first mixer's output holds the argument's rows at their batch and position. -/
theorem block0 (c : Dev nD) (t : Fin cfg0.N) (r : Fin 1024) (k : Fin 512) :
    iblk m c 0 t (ix2 r k) = m ((c : Thread nD τ).loc main_arg0) (ix3 (batch t r) (position t r) k) := by
  have hN : cfg0.N = 16 := N_0
  blk_ext! [iblk, idx t]

/-- A point's block of the second mixer's output holds the argument's rows at their batch and position. -/
theorem block1 (c : Dev nD) (t : Fin cfg0.N) (r : Fin 1024) (k : Fin 512) :
    iblk m c 1 t (ix2 r k) = m ((c : Thread nD τ).loc main_arg1) (ix3 (batch t r) (position t r) k) := by
  have hN : cfg0.N = 16 := N_0
  blk_ext! [iblk, idx t]

/-- A point's block of the layer's input holds the argument's rows at their batch and position. -/
theorem block2 (c : Dev nD) (t : Fin cfg0.N) (r : Fin 1024) (k : Fin 1024) :
    iblk m c 2 t (ix2 r k) = m ((c : Thread nD τ).loc main_arg2) (ix3 (batch t r) (position t r) k) := by
  have hN : cfg0.N = 16 := N_0
  blk_ext! [iblk, idx t]

/-- A point's block of the embeddings holds the argument's rows at their batch and position. -/
theorem block3 (c : Dev nD) (t : Fin cfg0.N) (r : Fin 1024) (k : Fin 256) :
    iblk m c 3 t (ix2 r k) = m ((c : Thread nD τ).loc main_arg3) (ix3 (batch t r) (position t r) k) := by
  have hN : cfg0.N = 16 := N_0
  blk_ext! [iblk, idx t]

/-- The block of the output matrix's upper half is that half. -/
theorem block4 (c : Dev nD) (t : Fin cfg0.N) (r : Fin 512) (k : Fin 1024) :
    iblk m c 4 t (ix2 r k) = m ((c : Thread nD τ).loc main_arg4) (ix2 ⟨r, by omega⟩ k) := by
  have hN : cfg0.N = 16 := N_0
  blk_ext! [iblk, idx t]

/-- The block of the output matrix's lower half is that half. -/
theorem block5 (c : Dev nD) (t : Fin cfg0.N) (r : Fin 512) (k : Fin 1024) :
    iblk m c 5 t (ix2 r k) = m ((c : Thread nD τ).loc main_arg4) (ix2 ⟨512 + r, by omega⟩ k) := by
  have hN : cfg0.N = 16 := N_0
  blk_ext! [iblk, idx t]

/-- The block of the first feed-forward matrix is the matrix. -/
theorem block6 (c : Dev nD) (t : Fin cfg0.N) (r : Fin 1024) (k : Fin 4096) :
    iblk m c 6 t (ix2 r k) = m ((c : Thread nD τ).loc main_arg5) (ix2 r k) := by
  have hN : cfg0.N = 16 := N_0
  blk_ext! [iblk, idx t]

/-- The block of the second feed-forward matrix is the matrix. -/
theorem block7 (c : Dev nD) (t : Fin cfg0.N) (r : Fin 4096) (k : Fin 1024) :
    iblk m c 7 t (ix2 r k) = m ((c : Thread nD τ).loc main_arg6) (ix2 r k) := by
  have hN : cfg0.N = 16 := N_0
  blk_ext! [iblk, idx t]

/-- The block of the embeddings' matrix is the matrix. -/
theorem block8 (c : Dev nD) (t : Fin cfg0.N) (r : Fin 256) (k : Fin 1024) :
    iblk m c 8 t (ix2 r k) = m ((c : Thread nD τ).loc main_arg7) (ix2 r k) := by
  have hN : cfg0.N = 16 := N_0
  blk_ext! [iblk, idx t]

/-- The block of the gate's matrix is the matrix. -/
theorem block9 (c : Dev nD) (t : Fin cfg0.N) (r : Fin 1024) (k : Fin 1024) :
    iblk m c 9 t (ix2 r k) = m ((c : Thread nD τ).loc main_arg8) (ix2 r k) := by
  have hN : cfg0.N = 16 := N_0
  blk_ext! [iblk, idx t]

/-- The block of the gain after the mix is the gain. -/
theorem block10 (c : Dev nD) (t : Fin cfg0.N) (k : Fin 1024) :
    iblk m c 10 t (ix2 0 k) = m ((c : Thread nD τ).loc main_arg9) (ix1 k) := by
  have hN : cfg0.N = 16 := N_0
  blk_ext! [iblk, idx t]

/-- The block of the gain before the feed-forward step is the gain. -/
theorem block11 (c : Dev nD) (t : Fin cfg0.N) (k : Fin 1024) :
    iblk m c 11 t (ix2 0 k) = m ((c : Thread nD τ).loc main_arg10) (ix1 k) := by
  have hN : cfg0.N = 16 := N_0
  blk_ext! [iblk, idx t]

/-- The block of the gain after the feed-forward step is the gain. -/
theorem block12 (c : Dev nD) (t : Fin cfg0.N) (k : Fin 1024) :
    iblk m c 12 t (ix2 0 k) = m ((c : Thread nD τ).loc main_arg11) (ix1 k) := by
  have hN : cfg0.N = 16 := N_0
  blk_ext! [iblk, idx t]

/-- The block of the gain before the gate is the gain. -/
theorem block13 (c : Dev nD) (t : Fin cfg0.N) (k : Fin 1024) :
    iblk m c 13 t (ix2 0 k) = m ((c : Thread nD τ).loc main_arg12) (ix1 k) := by
  have hN : cfg0.N = 16 := N_0
  blk_ext! [iblk, idx t]

/-- The block of the gain after the gated embedding is the gain. -/
theorem block14 (c : Dev nD) (t : Fin cfg0.N) (k : Fin 1024) :
    iblk m c 14 t (ix2 0 k) = m ((c : Thread nD τ).loc main_arg13) (ix1 k) := by
  have hN : cfg0.N = 16 := N_0
  blk_ext! [iblk, idx t]

/-- The reference's result at the row a grid point's block places, from the arguments' rows. -/
theorem result_apply (c : Dev nD) (t : Fin cfg0.N) (r j : Fin 1024) :
    result m c ((win0_15.blk t).view.emb (ix2 r j))
      = Cert.PostRefIdeal.Read.val_main_v84 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (ix3 (batch t r) (position t r) j) := by
  have hN : cfg0.N = 16 := N_0
  have ht : t.val < cfg0.N := t.isLt
  have e : (win0_15.blk t).view.emb (ix2 r j)
      = (ix2 (⟨t.val * 1024 + r.val, by omega⟩ : Fin 16384) j : S16384x1024.Idx) := by
    blk_ext [idx t]
  rw [e]
  unfold result
  pointwise [Cert.PostRefIdeal.Read.val_main_v85]

/-- The result array after the run is the reference's result. -/
theorem final (c : Dev nD) : (dats m 0 c).arrAt 15 cfg0.N = result m c := by
  refine (dats m 0 c).arrAt_eq_of_covers 15 _ (by decide +kernel) fun t hf y => ?_
  blk_simp
  rw [after0_15]
  obtain ⟨r, j, rfl⟩ : ∃ (r j : Fin 1024), y = ix2 r j := ⟨y 0, y 1, by idx_ext⟩
  rw [result_apply m c t r j, PostRef.result_apply, out_apply]
  simp only [block0, block1, block2, block3, block4, block5, block6, block7, block8, block9, block10, block11, block12,
    block13, block14]

/-- The kernel's run: the result is the reference's result of the arguments, and the arguments end as they were. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨(h c).1.trans (final m c), (h c).2⟩) (Cert.PostIdeal.Value.run_blocks m ρ)

end Cert.Proof.Post

end
-- ==== Proof.Reals.lean ====
/-
  Extended reals that are reals: the operations of a row that keep them so, and what a precondition `jnp.all(|x| < inf)` says.
-/
module

public import proofs.«01_k».proof.Proof.Rows
public import Idealize.ShloMosaic.Lib.Affine
public import Idealize.ShloMosaic.Lib.ReduceAll

@[expose] public section

noncomputable section

namespace Cert.Proof.Reals

open Idealize.ShloMosaic Cert.Proof.Rows

/-- The extended real is a real. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem isReal_zero : IsReal 0 := ⟨0, rfl⟩

/-- A real less itself is zero. -/
theorem IsReal.sub_self {x : EReal} : IsReal x → x - x = 0
  | ⟨a, ha⟩ => by rw [ha, ← EReal.coe_sub, _root_.sub_self, EReal.coe_zero]

theorem isReal_sum {ι : Type} (s : Finset ι) (f : ι → EReal) (h : ∀ i, IsReal (f i)) : IsReal (∑ i ∈ s, f i) := by
  classical
  induction s using Finset.induction_on with
  | empty => exact isReal_zero
  | insert a s ha ih => rw [Finset.sum_insert ha]; exact (h a).add ih

/-- A sum of reals, summed as extended reals. -/
theorem coe_sum {ι : Type} (s : Finset ι) (a : ι → ℝ) : ((∑ i ∈ s, a i : ℝ) : EReal) = ∑ i ∈ s, (a i : EReal) := by
  classical
  induction s using Finset.induction_on with
  | empty => rfl
  | insert b s hb ih => rw [Finset.sum_insert hb, Finset.sum_insert hb, EReal.coe_add, ih]

/-- A row of reals times a matrix of reals is a row of reals. -/
theorem isReal_lin {n k : ℕ} {f : Fin n → EReal} {w : Fin n → Fin k → EReal} (hf : ∀ i, IsReal (f i))
    (hw : ∀ i j, IsReal (w i j)) (j : Fin k) : IsReal (lin f w j) :=
  isReal_sum _ _ fun i => (hf i).mul (hw i j)

/-- A row times a matrix whose column is zero is zero there. -/
theorem lin_zero {n k : ℕ} (f : Fin n → EReal) (w : Fin n → Fin k → EReal) (j : Fin k) (hw : ∀ i, w i j = 0) :
    lin f w j = 0 :=
  Finset.sum_eq_zero fun i _ => by rw [hw, mul_zero]

/-- The row's length as the programs write it. -/
theorem ofBits_length : Ideal.ofBits FTy.f32 1149239296#32 = ((1024 : ℝ) : EReal) := by
  simp [Ideal.ofBits, Ideal.ieee, -EReal.coe_mul]; norm_num

/-- The small constant of the norm is a positive real. -/
theorem ofBits_small : ∃ e : ℝ, 0 < e ∧ Ideal.ofBits FTy.f32 897988541#32 = (e : EReal) := by
  refine ⟨8796093 * 2 ^ (-43 : Int), by positivity, ?_⟩
  simp [Ideal.ofBits, Ideal.ieee, -EReal.coe_mul]

/-- The mean square of a row of reals is a positive real. -/
theorem meanSq_pos {f : Fin 1024 → EReal} (hf : ∀ i, IsReal (f i)) : ∃ r : ℝ, 0 < r ∧ meanSq f = r := by
  choose a ha using hf
  obtain ⟨e, he, h⟩ := ofBits_small
  refine ⟨(∑ k, a k * a k) * (1024 : ℝ)⁻¹ + e, ?_, ?_⟩
  · have : 0 ≤ ∑ k, a k * a k := Finset.sum_nonneg fun k _ => mul_self_nonneg _
    positivity
  · unfold meanSq
    have hs : (∑ k, f k * f k : EReal) = ((∑ k, a k * a k : ℝ) : EReal) := by
      rw [coe_sum]
      exact Finset.sum_congr rfl fun k _ => by rw [ha, EReal.coe_mul]
    rw [h, ofBits_length, hs, Ideal.div, if_neg (by norm_cast), EReal.coe_add, EReal.coe_mul, EReal.coe_inv]

/-- A normed row of reals is a row of reals. -/
theorem isReal_rms {f g : Fin 1024 → EReal} (hf : ∀ i, IsReal (f i)) (hg : ∀ i, IsReal (g i)) (j : Fin 1024) :
    IsReal (rms f g j) := by
  obtain ⟨r, hr, h⟩ := meanSq_pos hf
  refine ((hf j).mul ?_).mul (hg j)
  rw [h, Ideal.rsqrt_coe, if_neg (not_lt.mpr hr.le), if_neg hr.ne']
  exact ⟨_, rfl⟩

/-- An entry whose absolute value compares below infinity is a real. -/
theorem isReal_of_abs_lt (x : Ideal .f32)
    (h : FloatOps.cmpf .olt (FloatOps.hostAbsf x) (FloatOps.ofBits .f32 0x7F800000#32 : Ideal .f32) = 1#1) : IsReal x := by
  have hi : (Ideal.ofBits .f32 0x7F800000#32 : EReal) = ⊤ := by simp [Ideal.ofBits, Ideal.ieee]
  have h : (BitVec.ofBool (decide ((max x (-x) : EReal) < Ideal.ofBits .f32 0x7F800000#32))) = 1#1 := h
  have h : (max x (-x) : EReal) < Ideal.ofBits .f32 0x7F800000#32 := by
    by_contra hc
    rw [decide_eq_false hc] at h
    exact absurd h (by decide)
  rw [hi] at h
  obtain ⟨h1, h2⟩ := max_lt_iff.mp h
  induction x using EReal.rec with
  | bot => exact absurd h2 (by simp)
  | top => exact absurd h1 (by simp)
  | coe r => exact ⟨r, rfl⟩

end Cert.Proof.Reals

end
-- ==== Proof.ProjPayload.lean ====
/-
  What the input projection's body computes of its blocks, read at row `r` and column `j` of a block: the normed row times the
  columns of the block of weights.
-/
module

public import proofs.«01_k».proof.Proof.Gen.InProjIdeal.Skeleton
public import proofs.«01_k».proof.Proof.Rows
public import proofs.«01_k».proof.Proof.Reals
public import Idealize.ShloMosaic.Lib.Pointwise

@[expose] public section

set_option maxRecDepth 16384

noncomputable section

namespace Cert.Proof.Proj

open Cert.InProjIdeal Cert.InProjIdeal.Gen Cert.Proof.Rows Cert.Proof.Reals Idealize.ShloMosaic
open Idealize.ShloMosaic.Pointwise

/-- The block's normed row. -/
abbrev hrow (x : Vec Ideal S1024x1024 .f32) (g : Vec Ideal S1x1024 .f32) (r : Fin 1024) : Fin 1024 → EReal :=
  rms (fun k => x (ix2 r k)) (fun k => g (ix2 0 k))

/-- The normed row, kept at full precision. -/
theorem normed_apply (x : Vec Ideal S1024x1024 .f32) (g : Vec Ideal S1x1024 .f32) (r j : Fin 1024) :
    k0_pay7 x g (ix2 r j) = hrow x g r j := by
  pointwise [k0_pay7]
  rfl

/-- The normed row in the narrow format: its high part. -/
theorem high_apply (x : Vec Ideal S1024x1024 .f32) (g : Vec Ideal S1x1024 .f32) (r j : Fin 1024) :
    k0_pay8 x g (ix2 r j) = hrow x g r j := by
  rw [← normed_apply]
  pointwise [k0_pay8]

/-- What the high part leaves of a normed row of reals is zero. -/
theorem low_apply (x : Vec Ideal S1024x1024 .f32) (g : Vec Ideal S1x1024 .f32) (r j : Fin 1024)
    (h : IsReal (hrow x g r j)) : k0_pay9 x g (ix2 r j) = (0 : EReal) := by
  have e : k0_pay9 x g (ix2 r j) = (k0_pay7 x g (ix2 r j) - k0_pay8 x g (ix2 r j) : EReal) := by
    pointwise [k0_pay9]
  rw [e, normed_apply, high_apply, h.sub_self]

/-- The normed row times the block of the main weights. -/
theorem main_apply (x : Vec Ideal S1024x1024 .f32) (g : Vec Ideal S1x1024 .f32) (w : Vec Ideal S1024x3328 .bf16)
    (r : Fin 1024) (j : Fin 3328) :
    k0_pay10 x g w (ix2 r j) = lin (hrow x g r) (fun k l => w (ix2 k l)) j := by
  have e : k0_pay10 x g w (ix2 r j) = lin (fun k => k0_pay8 x g (ix2 r k)) (fun k l => w (ix2 k l)) j := by
    pointwise [k0_pay10]
    rfl
  simp only [e, high_apply]

/-- The indexer's product: high times high, high times low and low times high. -/
theorem index_apply (h l : FVec Ideal S1024x1024 .bf16) (wh wl : Vec Ideal S1024x640 .bf16) (r : Fin 1024) (j : Fin 640) :
    k0_pay15 h l wh wl wh (ix2 r j)
      = lin (fun k => h (ix2 r k)) (fun k l => wh (ix2 k l)) j + lin (fun k => h (ix2 r k)) (fun k l => wl (ix2 k l)) j
        + lin (fun k => l (ix2 r k)) (fun k l => wh (ix2 k l)) j := by
  pointwise [k0_pay15]
  rfl

/-- The indexer's queries in the narrow format: the first 512 columns of the indexer's product. -/
theorem query_apply (h l : FVec Ideal S1024x1024 .bf16) (wh wl : Vec Ideal S1024x640 .bf16) (r : Fin 1024) (j : Fin 512) :
    k0_pay17 h l wh wl wh (ix2 r j) = k0_pay15 h l wh wl wh (ix2 r ⟨j, by omega⟩) := by
  pointwise [k0_pay17, k0_pay16]

/-- What the narrow format leaves of the indexer's queries is zero where they are real. -/
theorem rest_apply (h l : FVec Ideal S1024x1024 .bf16) (wh wl : Vec Ideal S1024x640 .bf16) (r : Fin 1024) (j : Fin 512)
    (hr : IsReal (k0_pay15 h l wh wl wh (ix2 r ⟨j, by omega⟩))) : k0_pay18 h l wh wl wh (ix2 r j) = (0 : EReal) := by
  have e : k0_pay18 h l wh wl wh (ix2 r j)
      = (k0_pay15 h l wh wl wh (ix2 r ⟨j, by omega⟩) - k0_pay15 h l wh wl wh (ix2 r ⟨j, by omega⟩) : EReal) := by
    pointwise [k0_pay18, k0_pay17, k0_pay16]
  rw [e, hr.sub_self]

end Cert.Proof.Proj

end
-- ==== Proof.ProjRows.lean ====
/-
  The input projection's reference read at a row and a column of its results: the normed row of the argument times a column of
  the weights.
-/
module

public import proofs.«01_k».proof.Proof.Gen.InProjRefIdeal.Read
public import proofs.«01_k».proof.Proof.Rows
public import Idealize.ShloMosaic.Lib.Pointwise

@[expose] public section

set_option maxRecDepth 16384

noncomputable section

namespace Cert.Proof.ProjRef

open Cert.InProjRefIdeal Cert.InProjRefIdeal.Read Cert.Proof.Rows Idealize.ShloMosaic Idealize.ShloMosaic.Pointwise

variable (x0 : (⟨S8x2048x1024, .f32⟩ : BufTy).Contents (Elt Ideal)) (x1 : (⟨S1024, .f32⟩ : BufTy).Contents (Elt Ideal)) (x2 : (⟨S1024x3912, .f32⟩ : BufTy).Contents (Elt Ideal))

/-- The normed row of the argument: row `R` of the flattened argument. -/
def normed (R : Fin 16384) : Fin 1024 → EReal :=
  rms (fun k => x0 (ix3 (⟨R / 2048, by omega⟩ : Fin 8) (⟨R % 2048, by omega⟩ : Fin 2048) k)) (fun k => x1 (ix1 k))

/-- The normed row times a column of the weights. -/
def proj (R : Fin 16384) (c : Fin 3912) : EReal := lin (normed x0 x1 R) (fun k l => x2 (ix2 k l)) c

/-- The weights' column behind a column of the recurrence's inputs, whose sections are put in another order. -/
abbrev order (j : ℕ) : ℕ := if j < 512 then j else if j < 1536 then j + 64 else if j < 1600 then j - 1024 else j

/-- The reference's product at a row and a column. -/
theorem product_apply (R : Fin 16384) (c : Fin 3912) :
    val_main_v14 (F := Ideal) x0 x1 x2 (ix2 R c) = proj x0 x1 x2 R c := by
  have h (b : Fin 8) (s : Fin 2048) (k : Fin 1024) : val_main_v12 (F := Ideal) x0 x1 (ix3 b s k)
      = rms (fun k => x0 (ix3 b s k)) (fun k => x1 (ix1 k)) k := by
    pointwise [val_main_v12, val_main_v11, val_main_v10, val_main_v9, val_main_v8, val_main_v7, val_main_v6, val_main_v5,
      val_main_cst_1, val_main_v4, val_main_v3, val_main_cst_0, val_main_v2, val_main_v1, val_main_cst, val_main_v0]
    rfl
  pointwise [val_main_v14, val_main_v13]
  simp only [h]
  rfl

/-- The recurrence's inputs. -/
theorem rec_apply (R : Fin 16384) (j : Fin 1792) :
    val_main_v27 (F := Ideal) x0 x1 x2 (ix2 R j) = proj x0 x1 x2 R ⟨order j, by unfold order; split_ifs <;> omega⟩ := by
  simp only [← product_apply]
  pointwise [val_main_v27, val_main_v15, val_main_v17, val_main_v18, val_main_v16, val_main_v19, val_main_v20]
  split_ifs <;> refine congrArg (fun c => val_main_v14 (F := Ideal) x0 x1 x2 (ix2 R c)) (Fin.ext ?_) <;>
    simp only [order] <;> split_ifs <;> omega

/-- The attention's queries. -/
theorem q_apply (R : Fin 16384) (j : Fin 512) :
    val_main_v31 (F := Ideal) x0 x1 x2 (ix2 R j) = proj x0 x1 x2 R ⟨1792 + j, by omega⟩ := by
  rw [← product_apply]
  pointwise [val_main_v31, val_main_v21]

/-- The attention's keys. -/
theorem k_apply (R : Fin 16384) (j : Fin 512) :
    val_main_v32 (F := Ideal) x0 x1 x2 (ix2 R j) = proj x0 x1 x2 R ⟨2304 + j, by omega⟩ := by
  rw [← product_apply]
  pointwise [val_main_v32, val_main_v22]

/-- The attention's values. -/
theorem v_apply (R : Fin 16384) (j : Fin 512) :
    val_main_v33 (F := Ideal) x0 x1 x2 (ix2 R j) = proj x0 x1 x2 R ⟨2816 + j, by omega⟩ := by
  rw [← product_apply]
  pointwise [val_main_v33, val_main_v23]

/-- The indexer's queries, head by head: twice the query and then zeros. -/
theorem query_apply (n : Fin 8) (R : Fin 16384) (j : Fin 192) :
    val_main_v35 (F := Ideal) x0 x1 x2 (ix3 n R j)
      = if j.val < 128 then proj x0 x1 x2 R ⟨3328 + 64 * n + j % 64, by omega⟩ else (0 : EReal) := by
  simp only [← product_apply]
  pointwise [val_main_v35, val_main_v30, val_main_v29, val_main_v28, val_main_v24, val_main_v34, val_main_cst_2]
  split_ifs <;>
    first
    | rfl
    | omega
    | (refine Eq.trans ?_ (if_pos (show j.val < 128 by omega)).symm
       refine congrArg (fun c => val_main_v14 (F := Ideal) x0 x1 x2 (ix2 R c)) (Fin.ext ?_)
       simp only
       omega)

/-- The indexer's key and head weights, and then zeros. -/
theorem key_apply (R : Fin 16384) (j : Fin 128) :
    val_main_v37 (F := Ideal) x0 x1 x2 (ix2 R j)
      = if h : j.val < 72 then proj x0 x1 x2 R ⟨3840 + j, by omega⟩ else (0 : EReal) := by
  simp only [← product_apply]
  pointwise [val_main_v37, val_main_v25, val_main_v26, val_main_v36, val_main_cst_3]
  split_ifs <;>
    first
    | rfl
    | omega
    | (refine Eq.trans ?_ (dif_pos (show j.val < 72 by omega)).symm
       refine congrArg (fun c => val_main_v14 (F := Ideal) x0 x1 x2 (ix2 R c)) (Fin.ext ?_)
       grind)

end Cert.Proof.ProjRef

end
-- ==== Proof.ProjValue.lean ====
/-
  The input projection's result arrays after its run: the reference's results of the same arguments, row by row.
-/
module

public import proofs.«01_k».proof.Proof.Gen.InProjIdeal.Value
public import proofs.«01_k».proof.Proof.ProjPayload
public import proofs.«01_k».proof.Proof.ProjRows
public import Idealize.ShloMosaic.Lib.Pipeline.ValueKit
public import Idealize.ShloMosaic.Lib.Claim

@[expose] public section

set_option maxRecDepth 16384

noncomputable section

namespace Cert.Proof.Proj

open Cert.InProjIdeal Cert.InProjIdeal.Gen Cert.Proof.Rows Cert.Proof.Reals Idealize.ShloMosaic
open Idealize.ShloMosaic.Pointwise Idealize.ShloMosaic.TcCoe Idealize.SL.Sem
open Idealize.ShloMosaic.Pipeline (Dat Window)
open Cert.Proof.ProjRef (order)

variable (m : (ℓ : Loc nD τ sig) → Buf (Elt Ideal) ℓ) (ρ : Dev nD → PrngReg)

/-- Where each window's block lies at a grid point: the rows move with the point, weights and gain stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, t.val, 0]
    ∧ win0_10.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, t.val, 0]
    ∧ win0_10.index t = ![t.val, 0])

/-- The flattened row of a block's row. -/
abbrev row (t : Fin cfg0.N) (r : Fin 1024) : Fin 16384 :=
  ⟨t.val * 1024 + r.val, by have := t.isLt; have : cfg0.N = 16 := N_0; omega⟩

/-- The recurrence's sections of the weights, put in their new order. -/
def sections (w : FVec Ideal S1024x1792 .f32) : FVec Ideal S1024x1792 .f32 :=
  concatenate S1024x1792 1 [⟨S1024x512, extractStridedSlice S1024x512 ![0, 0] w slices_S1024x1792_S1024x512_0_0⟩,
    ⟨S1024x512, extractStridedSlice S1024x512 ![0, 576] w slices_S1024x1792_S1024x512_0_576⟩,
    ⟨S1024x512, extractStridedSlice S1024x512 ![0, 1088] w slices_S1024x1792_S1024x512_0_1088⟩,
    ⟨S1024x64, extractStridedSlice S1024x64 ![0, 512] w slices_S1024x1792_S1024x64_0_512⟩,
    ⟨S1024x64, extractStridedSlice S1024x64 ![0, 1600] w slices_S1024x1792_S1024x64_0_1600⟩,
    ⟨S1024x128, extractStridedSlice S1024x128 ![0, 1664] w slices_S1024x1792_S1024x128_0_1664⟩]
    concatenates_S1024x512_S1024x512_S1024x512_S1024x64_S1024x64_S1024x128_S1024x1792_d1

/-- The main weights at the kernel's entry, from the arguments. -/
theorem entry10 (c : Dev nD) : V m c main_v10 = truncf (F := Ideal) .bf16 (concatenate S1024x3328 1
      [⟨S1024x1792, sections (extractStridedSlice S1024x1792 ![0, 0] (m ((c : Thread nD τ).loc main_arg2))
        slices_S1024x3912_S1024x1792_0_0)⟩,
       ⟨S1024x1536, extractStridedSlice S1024x1536 ![0, 1792] (m ((c : Thread nD τ).loc main_arg2))
        slices_S1024x3912_S1024x1536_0_1792⟩]
      concatenates_S1024x1792_S1024x1536_S1024x3328_d1) bitsLt_bf16_f32 := by
  unfold V
  simp only [hostOps0, hostOps0_1, hostOps0_2, List.flatten_cons, List.flatten_nil, List.append_nil, List.cons_append,
    List.nil_append]
  after_results
  rfl

/-- The main weights at the kernel's entry hold the weights' columns, the recurrence's sections in their new order. -/
theorem entry10_apply (c : Dev nD) (k : Fin 1024) (j : Fin 3328) :
    V m c main_v10 (ix2 k j) = m ((c : Thread nD τ).loc main_arg2)
      (ix2 k ⟨if j.val < 1792 then order j else j, by unfold order; split_ifs <;> omega⟩) := by
  rw [entry10]
  pointwise [sections]
  split_ifs <;> refine congrArg (fun i => m ((c : Thread nD τ).loc main_arg2) (ix2 k i)) (Fin.ext ?_) <;>
    simp only [order] <;> first | omega | (split_ifs <;> omega)

/-- The integer zero as a float. -/
theorem sitofp_zero : (FloatOps.sitofp FTy.f32 (0#32 : BitVec 32) : Ideal .f32) = (0 : EReal) := by
  show (((0#32 : BitVec 32).toInt : ℝ) : EReal) = 0
  rw [show (0#32 : BitVec 32).toInt = 0 from rfl, Int.cast_zero, EReal.coe_zero]

/-- The indexer's weights' high part at the kernel's entry, from the arguments: zero columns at the end. -/
theorem entry13 (c : Dev nD) : V m c main_v13 = truncf (F := Ideal) .bf16 (pad S1024x640 ![0, 0] ![0, 56] ![0, 0]
        (extractStridedSlice S1024x584 ![0, 3328] (m ((c : Thread nD τ).loc main_arg2)) slices_S1024x3912_S1024x584_0_3328)
        (sitofp FTy.f32 (constantI S_ 32 0#32)) pads_S1024x584_S1024x640_000_0560 h_S_) bitsLt_bf16_f32 := by
  unfold V
  simp only [hostOps0, hostOps0_1, hostOps0_2, List.flatten_cons, List.flatten_nil, List.append_nil, List.cons_append,
    List.nil_append]
  entry_read
  rfl

/-- The indexer's weights' high part at the kernel's entry holds the weights' last columns, and then zeros. -/
theorem entry13_apply (c : Dev nD) (k : Fin 1024) (j : Fin 640) :
    V m c main_v13 (ix2 k j) = (if h : j.val < 584 then m ((c : Thread nD τ).loc main_arg2) (ix2 k ⟨3328 + j, by omega⟩)
      else 0 : EReal) := by
  rw [entry13]
  pointwise
  split_ifs
  · rfl
  · exact sitofp_zero

/-- What the high part leaves of the indexer's weights. -/
theorem entry16 (c : Dev nD) : V m c main_v16 = truncf (F := Ideal) .bf16 (subf (pad S1024x640 ![0, 0] ![0, 56] ![0, 0]
        (extractStridedSlice S1024x584 ![0, 3328] (m ((c : Thread nD τ).loc main_arg2)) slices_S1024x3912_S1024x584_0_3328)
        (sitofp FTy.f32 (constantI S_ 32 0#32)) pads_S1024x584_S1024x640_000_0560 h_S_)
        (extf .f32 (V m c main_v13) bitsLt_bf16_f32)) bitsLt_bf16_f32 := by
  unfold V
  simp only [hostOps0, hostOps0_1, hostOps0_2, List.flatten_cons, List.flatten_nil, List.append_nil, List.cons_append,
    List.nil_append]
  entry_read
  rfl

/-- What the high part leaves of the indexer's weights is an entry less itself. -/
theorem entry16_apply (c : Dev nD) (k : Fin 1024) (j : Fin 640) :
    V m c main_v16 (ix2 k j) = ((if h : j.val < 584 then m ((c : Thread nD τ).loc main_arg2) (ix2 k ⟨3328 + j, by omega⟩)
      else 0 : EReal) - (if h : j.val < 584 then m ((c : Thread nD τ).loc main_arg2) (ix2 k ⟨3328 + j, by omega⟩)
      else 0 : EReal) : EReal) := by
  rw [← entry13_apply, entry16, entry13]
  pointwise

/-- The layer's input at the kernel's entry: the argument's rows, flattened. -/
theorem entry17 (c : Dev nD) (R : Fin 16384) (k : Fin 1024) : V m c main_v17 (ix2 R k) = m ((c : Thread nD τ).loc main_arg0)
      (ix3 (⟨R / 2048, by omega⟩ : Fin 8) (⟨R % 2048, by omega⟩ : Fin 2048) k) := by
  unfold V
  simp only [hostOps0, hostOps0_1, hostOps0_2, List.flatten_cons, List.flatten_nil, List.append_nil, List.cons_append,
    List.nil_append]
  entry_read
  pointwise

/-- The gain at the kernel's entry is the argument. -/
theorem entry18 (c : Dev nD) (k : Fin 1024) : V m c main_v18 (ix2 0 k) = m ((c : Thread nD τ).loc main_arg1) (ix1 k) := by
  unfold V
  simp only [hostOps0, hostOps0_1, hostOps0_2, List.flatten_cons, List.flatten_nil, List.append_nil, List.cons_append,
    List.nil_append]
  entry_read
  pointwise

/-- A point's block of the layer's input holds the argument's rows at their batch and position. -/
theorem block0 (c : Dev nD) (t : Fin cfg0.N) (r : Fin 1024) (k : Fin 1024) :
    iblk m c 0 t (ix2 r k) = m ((c : Thread nD τ).loc main_arg0)
      (ix3 (⟨(row t r).val / 2048, by omega⟩ : Fin 8) (⟨(row t r).val % 2048, by omega⟩ : Fin 2048) k) := by
  have hN : cfg0.N = 16 := N_0
  rw [← entry17 m c (row t r) k]
  blk_ext [iblk, idx t]

/-- The block of the gain is the gain. -/
theorem block1 (c : Dev nD) (t : Fin cfg0.N) (k : Fin 1024) :
    iblk m c 1 t (ix2 0 k) = m ((c : Thread nD τ).loc main_arg1) (ix1 k) := by
  rw [← entry18 m c k]
  blk_ext [iblk, idx t]

/-- The block of the main weights is the array at the kernel's entry. -/
theorem block2 (c : Dev nD) (t : Fin cfg0.N) (k : Fin 1024) (j : Fin 3328) :
    iblk m c 2 t (ix2 k j) = V m c main_v10 (ix2 k j) := by
  blk_ext [iblk, idx t]

/-- The block of the indexer's weights' high part is the array at the kernel's entry. -/
theorem block3 (c : Dev nD) (t : Fin cfg0.N) (k : Fin 1024) (j : Fin 640) :
    iblk m c 3 t (ix2 k j) = V m c main_v13 (ix2 k j) := by
  blk_ext [iblk, idx t]

/-- The block of the indexer's weights' low part is the array at the kernel's entry. -/
theorem block4 (c : Dev nD) (t : Fin cfg0.N) (k : Fin 1024) (j : Fin 640) :
    iblk m c 4 t (ix2 k j) = V m c main_v16 (ix2 k j) := by
  blk_ext [iblk, idx t]

end Cert.Proof.Proj

end
-- ==== Proof.ProjOut.lean ====
/-
  What the input projection's body leaves in each output block, at a row and a column, from the input blocks. The indexer's
  two outputs are read where the blocks' entries are reals and the weights' low part is zero.
-/
module

public import proofs.«01_k».proof.Proof.Gen.InProjIdeal.Frame
public import proofs.«01_k».proof.Proof.ProjPayload
public import Idealize.ShloMosaic.Lib.Pipeline.ValueKit

@[expose] public section

set_option maxRecDepth 16384

noncomputable section

namespace Cert.Proof.Proj

open Cert.InProjIdeal Cert.InProjIdeal.Gen Cert.Proof.Rows Cert.Proof.Reals Idealize.ShloMosaic
open Idealize.ShloMosaic.Pointwise

/-- A rectangle written from the corner. -/
theorem corner : (![0, 0] : Fin 2 → Nat) = fun _ => 0 := funext fun a => by fin_cases a <;> rfl

variable (x : Vec Ideal S1024x1024 .f32) (g : Vec Ideal S1x1024 .f32) (w : Vec Ideal S1024x3328 .bf16) (wh wl : Vec Ideal S1024x640 .bf16)

/-- The recurrence's inputs. -/
theorem out5_apply (r : Fin 1024) (j : Fin 1792) :
    out0_5 x g w wh wl (ix2 r j) = lin (hrow x g r) (fun k l => w (ix2 k l)) ⟨j, by omega⟩ := by
  unfold out0_5
  rw [View.canon_unit_zero corner, View.ld_unit_zero (S := S1024x1024) corner, View.ld_unit_zero (S := S1x1024) corner,
    View.ld_unit_zero (S := S1024x3328) corner, ← main_apply]
  pointwise [k0_pay11]

/-- The attention's queries. -/
theorem out6_apply (r : Fin 1024) (j : Fin 512) :
    out0_6 x g w wh wl (ix2 r j) = lin (hrow x g r) (fun k l => w (ix2 k l)) ⟨1792 + j, by omega⟩ := by
  unfold out0_6
  rw [View.canon_unit_zero corner, View.ld_unit_zero (S := S1024x1024) corner, View.ld_unit_zero (S := S1x1024) corner,
    View.ld_unit_zero (S := S1024x3328) corner, ← main_apply]
  pointwise [k0_pay12]

/-- The attention's keys. -/
theorem out7_apply (r : Fin 1024) (j : Fin 512) :
    out0_7 x g w wh wl (ix2 r j) = lin (hrow x g r) (fun k l => w (ix2 k l)) ⟨2304 + j, by omega⟩ := by
  unfold out0_7
  rw [View.canon_unit_zero corner, View.ld_unit_zero (S := S1024x1024) corner, View.ld_unit_zero (S := S1x1024) corner,
    View.ld_unit_zero (S := S1024x3328) corner, ← main_apply]
  pointwise [k0_pay13]

/-- The attention's values. -/
theorem out8_apply (r : Fin 1024) (j : Fin 512) :
    out0_8 x g w wh wl (ix2 r j) = lin (hrow x g r) (fun k l => w (ix2 k l)) ⟨2816 + j, by omega⟩ := by
  unfold out0_8
  rw [View.canon_unit_zero corner, View.ld_unit_zero (S := S1024x1024) corner, View.ld_unit_zero (S := S1x1024) corner,
    View.ld_unit_zero (S := S1024x3328) corner, ← main_apply]
  pointwise [k0_pay14]

/-- The indexer's product is the normed row times the high part of the weights. -/
theorem indexed_apply (r : Fin 1024) (j : Fin 640) (hx : ∀ k, IsReal (hrow x g r k)) (hl : ∀ k, wl (ix2 k j) = (0 : EReal)) :
    k0_pay15 (k0_pay8 x g) (k0_pay9 x g) wh wl wh (ix2 r j) = lin (hrow x g r) (fun k l => wh (ix2 k l)) j := by
  rw [index_apply, lin_zero _ (fun k l => wl (ix2 k l)) j hl]
  simp only [high_apply]
  have h : lin (fun k => k0_pay9 x g (ix2 r k)) (fun k l => wh (ix2 k l)) j = 0 :=
    Finset.sum_eq_zero fun k _ => by
      show k0_pay9 x g (ix2 r k) * wh (ix2 k j) = 0
      show k0_pay9 x g (ix2 r k) * wh (ix2 k j) = 0
      rw [low_apply x g r k (hx k), zero_mul]
  rw [h, add_zero, add_zero]

/-- The indexer's key and head weights. -/
theorem out10_apply (r : Fin 1024) (j : Fin 128) (hx : ∀ k, IsReal (hrow x g r k))
    (hl : ∀ k l, wl (ix2 k l) = (0 : EReal)) :
    out0_10 x g w wh wl (ix2 r j) = lin (hrow x g r) (fun k l => wh (ix2 k l)) ⟨512 + j, by omega⟩ := by
  unfold out0_10 k0_pay23 k0_pay24
  rw [View.canon_unit_zero corner, View.ld_unit_zero (S := S1024x1024) corner, View.ld_unit_zero (S := S1x1024) corner,
    View.ld_unit_zero (S := S1024x640) corner, View.ld_unit_zero (S := S1024x640) corner,
    ← indexed_apply x g wh wl r ⟨512 + j, by omega⟩ hx fun k => hl k _]
  pointwise [k0_pay6]

/-- One head's part of the indexer's queries: the head's 64 columns twice, and then the same columns of what was left. -/
def head (n : Fin 8) (q e : FVec Ideal S1024x512 .bf16) (r : Fin 1024) (j : Fin 192) : EReal :=
  if j.val < 128 then q (ix2 r ⟨64 * n + j % 64, by omega⟩) else e (ix2 r ⟨64 * n + j % 64, by omega⟩)

/-- A head's part read off the columns of a concatenation. -/
theorem head_eq (n : Fin 8) (q e : FVec Ideal S1024x512 .bf16) (r : Fin 1024) (j : Fin 192) (o : ℕ) (ho : o = 64 * n.val)
    (h0 : j.val < 64 → o + j < 512) (h1 : j.val - 64 < 64 → o + (j - 64) < 512) (h2 : ¬ j.val - 64 < 64 → o + (j - 64 - 64) < 512) :
    (if h : j.val < 64 then q (ix2 r ⟨o + j, h0 h⟩) else if h : j.val - 64 < 64 then q (ix2 r ⟨o + (j - 64), h1 h⟩)
      else e (ix2 r ⟨o + (j - 64 - 64), h2 h⟩) : EReal) = head n q e r j := by
  subst ho
  unfold head
  split_ifs
  · refine congrArg (fun c => q (ix2 r c)) (Fin.ext ?_); simp only; omega
  · omega
  · refine congrArg (fun c => q (ix2 r c)) (Fin.ext ?_); simp only; omega
  · omega
  · omega
  · refine congrArg (fun c => e (ix2 r c)) (Fin.ext ?_); simp only; omega

/-- The first head's stored part. -/
theorem head0 (a b : FVec Ideal S1024x1024 .bf16) (u v w : Vec Ideal S1024x640 .bf16) (r : Fin 1024) (j : Fin 192) :
    k0_pay19 a b u v w (ix3 0 r j) = head 0 (k0_pay17 a b u v w) (k0_pay18 a b u v w) r j := by
  rw [← head_eq 0 (k0_pay17 a b u v w) (k0_pay18 a b u v w) r j 0 rfl (by omega) (by omega) (by omega)]
  pointwise [k0_pay19]

/-- The second head's stored part. -/
theorem head1 (a b : FVec Ideal S1024x1024 .bf16) (u v w : Vec Ideal S1024x640 .bf16) (r : Fin 1024) (j : Fin 192) :
    k0_pay20 a b u v w (ix3 0 r j) = head 1 (k0_pay17 a b u v w) (k0_pay18 a b u v w) r j := by
  rw [← head_eq 1 (k0_pay17 a b u v w) (k0_pay18 a b u v w) r j 64 rfl (by omega) (by omega) (by omega)]
  pointwise [k0_pay20]

/-- The third head's stored part. -/
theorem head2 (a b : FVec Ideal S1024x1024 .bf16) (u v w : Vec Ideal S1024x640 .bf16) (r : Fin 1024) (j : Fin 192) :
    k0_pay21 a b u v w (ix3 0 r j) = head 2 (k0_pay17 a b u v w) (k0_pay18 a b u v w) r j := by
  rw [← head_eq 2 (k0_pay17 a b u v w) (k0_pay18 a b u v w) r j 128 rfl (by omega) (by omega) (by omega)]
  pointwise [k0_pay21]

/-- The fourth head's stored part. -/
theorem head3 (a b : FVec Ideal S1024x1024 .bf16) (u v w : Vec Ideal S1024x640 .bf16) (r : Fin 1024) (j : Fin 192) :
    k0_pay1 (k0_pay22 a b u v w) (ix3 0 r j) = head 3 (k0_pay17 a b u v w) (k0_pay18 a b u v w) r j := by
  rw [← head_eq 3 (k0_pay17 a b u v w) (k0_pay18 a b u v w) r j 192 rfl (by omega) (by omega) (by omega)]
  pointwise [k0_pay1, k0_pay22]

/-- The fifth head's stored part. -/
theorem head4 (q e : FVec Ideal S1024x512 .bf16) (r : Fin 1024) (j : Fin 192) :
    k0_pay2 q e (ix3 0 r j) = head 4 q e r j := by
  rw [← head_eq 4 q e r j 256 rfl (by omega) (by omega) (by omega)]
  pointwise [k0_pay2]

/-- The sixth head's stored part. -/
theorem head5 (q e : FVec Ideal S1024x512 .bf16) (r : Fin 1024) (j : Fin 192) :
    k0_pay3 q e (ix3 0 r j) = head 5 q e r j := by
  rw [← head_eq 5 q e r j 320 rfl (by omega) (by omega) (by omega)]
  pointwise [k0_pay3]

/-- The seventh head's stored part. -/
theorem head6 (q e : FVec Ideal S1024x512 .bf16) (r : Fin 1024) (j : Fin 192) :
    k0_pay4 q e (ix3 0 r j) = head 6 q e r j := by
  rw [← head_eq 6 q e r j 384 rfl (by omega) (by omega) (by omega)]
  pointwise [k0_pay4]

/-- The eighth head's stored part. -/
theorem head7 (q e : FVec Ideal S1024x512 .bf16) (r : Fin 1024) (j : Fin 192) :
    k0_pay5 q e (ix3 0 r j) = head 7 q e r j := by
  rw [← head_eq 7 q e r j 448 rfl (by omega) (by omega) (by omega)]
  pointwise [k0_pay5]

/-- The indexer's queries as the stores leave them, head by head. -/
theorem heads_apply (n : Fin 8) (r : Fin 1024) (j : Fin 192) :
    out0_9 x g w wh wl (ix3 n r j) = head n (k0_pay17 (k0_pay8 x g) (k0_pay9 x g) wh wl wh)
      (k0_pay18 (k0_pay8 x g) (k0_pay9 x g) wh wl wh) r j := by
  unfold out0_9 k0_pay26 k0_pay25 k0_pay24 k0_pay23
  rw [View.ld_unit_zero (S := S1024x1024) corner, View.ld_unit_zero (S := S1x1024) corner,
    View.ld_unit_zero (S := S1024x640) corner, View.ld_unit_zero (S := S1024x640) corner]
  refine View.canon_apply_of_pieces (Val := Elt Ideal) (fun y : S8x1024x192.Idx => head (y 0) (k0_pay17 (k0_pay8 x g) (k0_pay9 x g) wh wl wh)
      (k0_pay18 (k0_pay8 x g) (k0_pay9 x g) wh wl wh) (y 1) (y 2)) _ ?_ (ix3 n r j) (cover0_9 _ _ _ _ _ _ _ _ _)
  intro pc hpc
  rcases List.mem_cons.mp hpc with rfl | hpc
  · intro y
    obtain ⟨i, l, rfl⟩ : ∃ (i : Fin 1024) (l : Fin 192), y = ix3 0 i l := ⟨y 1, y 2, by idx_ext⟩
    rw [show r0_13.emb (ix3 0 i l) = (ix3 7 i l : S8x1024x192.Idx) by idx_ext]
    exact head7 _ _ i l
  rcases List.mem_cons.mp hpc with rfl | hpc
  · intro y
    obtain ⟨i, l, rfl⟩ : ∃ (i : Fin 1024) (l : Fin 192), y = ix3 0 i l := ⟨y 1, y 2, by idx_ext⟩
    rw [show r0_12.emb (ix3 0 i l) = (ix3 6 i l : S8x1024x192.Idx) by idx_ext]
    exact head6 _ _ i l
  rcases List.mem_cons.mp hpc with rfl | hpc
  · intro y
    obtain ⟨i, l, rfl⟩ : ∃ (i : Fin 1024) (l : Fin 192), y = ix3 0 i l := ⟨y 1, y 2, by idx_ext⟩
    rw [show r0_11.emb (ix3 0 i l) = (ix3 5 i l : S8x1024x192.Idx) by idx_ext]
    exact head5 _ _ i l
  rcases List.mem_cons.mp hpc with rfl | hpc
  · intro y
    obtain ⟨i, l, rfl⟩ : ∃ (i : Fin 1024) (l : Fin 192), y = ix3 0 i l := ⟨y 1, y 2, by idx_ext⟩
    rw [show r0_10.emb (ix3 0 i l) = (ix3 4 i l : S8x1024x192.Idx) by idx_ext]
    exact head4 _ _ i l
  rcases List.mem_cons.mp hpc with rfl | hpc
  · intro y
    obtain ⟨i, l, rfl⟩ : ∃ (i : Fin 1024) (l : Fin 192), y = ix3 0 i l := ⟨y 1, y 2, by idx_ext⟩
    rw [show r0_9.emb (ix3 0 i l) = (ix3 3 i l : S8x1024x192.Idx) by idx_ext]
    exact head3 _ _ _ _ _ i l
  rcases List.mem_cons.mp hpc with rfl | hpc
  · intro y
    obtain ⟨i, l, rfl⟩ : ∃ (i : Fin 1024) (l : Fin 192), y = ix3 0 i l := ⟨y 1, y 2, by idx_ext⟩
    rw [show r0_8.emb (ix3 0 i l) = (ix3 2 i l : S8x1024x192.Idx) by idx_ext]
    exact head2 _ _ _ _ _ i l
  rcases List.mem_cons.mp hpc with rfl | hpc
  · intro y
    obtain ⟨i, l, rfl⟩ : ∃ (i : Fin 1024) (l : Fin 192), y = ix3 0 i l := ⟨y 1, y 2, by idx_ext⟩
    rw [show r0_7.emb (ix3 0 i l) = (ix3 1 i l : S8x1024x192.Idx) by idx_ext]
    exact head1 _ _ _ _ _ i l
  rcases List.mem_cons.mp hpc with rfl | hpc
  · intro y
    obtain ⟨i, l, rfl⟩ : ∃ (i : Fin 1024) (l : Fin 192), y = ix3 0 i l := ⟨y 1, y 2, by idx_ext⟩
    rw [show r0_6.emb (ix3 0 i l) = (ix3 0 i l : S8x1024x192.Idx) by idx_ext]
    exact head0 _ _ _ _ _ i l
  nomatch hpc

/-- The indexer's queries: each head's 64 columns of the product twice, and then zeros. -/
theorem out9_apply (n : Fin 8) (r : Fin 1024) (j : Fin 192) (hx : ∀ k, IsReal (hrow x g r k))
    (hw : ∀ k l, IsReal (wh (ix2 k l))) (hl : ∀ k l, wl (ix2 k l) = (0 : EReal)) :
    out0_9 x g w wh wl (ix3 n r j) = (if j.val < 128 then
      lin (hrow x g r) (fun k l => wh (ix2 k l)) ⟨64 * n + j % 64, by omega⟩ else 0 : EReal) := by
  have h : ∀ l : Fin 640, k0_pay15 (k0_pay8 x g) (k0_pay9 x g) wh wl wh (ix2 r l)
      = lin (hrow x g r) (fun k l => wh (ix2 k l)) l := fun l => indexed_apply x g wh wl r l hx fun k => hl k l
  rw [heads_apply]
  unfold head
  split_ifs
  · rw [query_apply, h]
  · refine rest_apply _ _ _ _ _ _ ?_
    rw [h]
    exact isReal_lin hx hw _

end Cert.Proof.Proj

end
-- ==== Proof.ProjRun.lean ====
/-
  The input projection's run: its six result arrays are the reference's results of the same arguments, where the arguments are
  finite.
-/
module

public import proofs.«01_k».proof.Defs
public import proofs.«01_k».proof.Proof.ProjValue
public import proofs.«01_k».proof.Proof.ProjOut
public import proofs.«01_k».proof.Proof.Gen.Pre_finite
public import Idealize.ShloMosaic.Lib.ReduceAll

@[expose] public section

set_option maxRecDepth 16384

noncomputable section

namespace Cert.Proof.Proj

open Cert.InProjIdeal Cert.InProjIdeal.Gen Cert.Proof.Rows Cert.Proof.Reals Idealize.ShloMosaic
open Idealize.ShloMosaic.Pointwise Idealize.ShloMosaic.TcCoe Idealize.SL.Sem
open Idealize.ShloMosaic.Pipeline (Dat Window)
open Cert.Proof.ProjRef (order proj normed)

/-- A scalar's arrays have one index. -/
instance scalarIdx : Subsingleton Cert.Pre_finite.S_.Idx := ⟨fun _ _ => funext fun a => a.elim0⟩

/-- The precondition says that every entry of the arguments is a real. -/
theorem isReal_of_finite (a : FVec Ideal S8x2048x1024 .f32) (b : FVec Ideal S1024 .f32) (w : FVec Ideal S1024x3912 .f32)
    (h : Cert.Pre_finite.fn (F := Ideal) a b w = fun _ => 1#1) :
    (∀ i, IsReal (a i)) ∧ (∀ i, IsReal (b i)) ∧ ∀ i, IsReal (w i) := by
  have h := congrFun h ix0
  dsimp only [Cert.Pre_finite.fn] at h
  obtain ⟨h, hw⟩ := IntOp.andi_eq_one.1 h
  obtain ⟨ha, hb⟩ := IntOp.andi_eq_one.1 h
  exact ⟨fun i => isReal_of_abs_lt _ (Host.reduce_andi_all _ _ _ _ _ ha i),
    fun i => isReal_of_abs_lt _ (Host.reduce_andi_all _ _ _ _ _ hb i),
    fun i => isReal_of_abs_lt _ (Host.reduce_andi_all _ _ _ _ _ hw i)⟩

variable (m : (ℓ : Loc nD τ sig) → Buf (Elt Ideal) ℓ) (ρ : Dev nD → PrngReg)

/-- A column of the projection, from the kernel's arguments. -/
def col (c : Dev nD) : Fin 16384 → Fin 3912 → EReal :=
  proj (m ((c : Thread nD τ).loc main_arg0)) (m ((c : Thread nD τ).loc main_arg1)) (m ((c : Thread nD τ).loc main_arg2))

/-- A block's normed row is the flattened row's. -/
theorem hrow_block (c : Dev nD) (t : Fin cfg0.N) (r : Fin 1024) : hrow (iblk m c 0 t) (iblk m c 1 t) r
    = normed (m ((c : Thread nD τ).loc main_arg0)) (m ((c : Thread nD τ).loc main_arg1)) (row t r) := by
  unfold hrow normed
  simp only [block0, block1]

/-- The normed row times a column of the main weights' block is a column of the projection. -/
theorem main_block (c : Dev nD) (t : Fin cfg0.N) (r : Fin 1024) (j : Fin 3328) :
    lin (hrow (iblk m c 0 t) (iblk m c 1 t) r) (fun k l => iblk m c 2 t (ix2 k l)) j
      = col m c (row t r) ⟨if j.val < 1792 then order j else j, by unfold order; split_ifs <;> omega⟩ := by
  unfold col proj lin
  refine Finset.sum_congr rfl fun k _ => ?_
  beta_reduce
  rw [hrow_block, block2, entry10_apply]

/-- The normed row times a column of the indexer's weights' block is a column of the projection, or zero past the last one. -/
theorem index_block (c : Dev nD) (t : Fin cfg0.N) (r : Fin 1024) (j : Fin 640) :
    lin (hrow (iblk m c 0 t) (iblk m c 1 t) r) (fun k l => iblk m c 3 t (ix2 k l)) j
      = (if h : j.val < 584 then col m c (row t r) ⟨3328 + j, by omega⟩ else 0 : EReal) := by
  split_ifs with h
  · unfold col proj lin
    refine Finset.sum_congr rfl fun k _ => ?_
    beta_reduce
    rw [hrow_block, block3, entry13_apply, dif_pos h]
  · exact lin_zero _ _ _ fun k => by rw [block3, entry13_apply, dif_neg h]

/-- The reference's recurrence's inputs, of the kernel's arguments. -/
def result0 (c : Dev nD) : Buf (Elt Ideal) ((c : Thread nD τ).loc main_v19_0) :=
  Cert.InProjRefIdeal.Read.val_main_v27 (F := Ideal) (m ((c : Thread nD τ).loc main_arg0)) (m ((c : Thread nD τ).loc main_arg1))
    (m ((c : Thread nD τ).loc main_arg2))

/-- The reference's attention's queries, of the kernel's arguments. -/
def result1 (c : Dev nD) : Buf (Elt Ideal) ((c : Thread nD τ).loc main_v19_1) :=
  Cert.InProjRefIdeal.Read.val_main_v31 (F := Ideal) (m ((c : Thread nD τ).loc main_arg0)) (m ((c : Thread nD τ).loc main_arg1))
    (m ((c : Thread nD τ).loc main_arg2))

/-- The reference's attention's keys, of the kernel's arguments. -/
def result2 (c : Dev nD) : Buf (Elt Ideal) ((c : Thread nD τ).loc main_v19_2) :=
  Cert.InProjRefIdeal.Read.val_main_v32 (F := Ideal) (m ((c : Thread nD τ).loc main_arg0)) (m ((c : Thread nD τ).loc main_arg1))
    (m ((c : Thread nD τ).loc main_arg2))

/-- The reference's attention's values, of the kernel's arguments. -/
def result3 (c : Dev nD) : Buf (Elt Ideal) ((c : Thread nD τ).loc main_v19_3) :=
  Cert.InProjRefIdeal.Read.val_main_v33 (F := Ideal) (m ((c : Thread nD τ).loc main_arg0)) (m ((c : Thread nD τ).loc main_arg1))
    (m ((c : Thread nD τ).loc main_arg2))

/-- The reference's indexer's queries, of the kernel's arguments. -/
def result4 (c : Dev nD) : Buf (Elt Ideal) ((c : Thread nD τ).loc main_v19_4) :=
  Cert.InProjRefIdeal.Read.val_main_v35 (F := Ideal) (m ((c : Thread nD τ).loc main_arg0)) (m ((c : Thread nD τ).loc main_arg1))
    (m ((c : Thread nD τ).loc main_arg2))

/-- The reference's indexer's key and head weights, of the kernel's arguments. -/
def result5 (c : Dev nD) : Buf (Elt Ideal) ((c : Thread nD τ).loc main_v19_5) :=
  Cert.InProjRefIdeal.Read.val_main_v37 (F := Ideal) (m ((c : Thread nD τ).loc main_arg0)) (m ((c : Thread nD τ).loc main_arg1))
    (m ((c : Thread nD τ).loc main_arg2))

/-- What the precondition says of the kernel's blocks: the normed rows and the indexer's weights are real, and the weights' low
    part is zero. -/
theorem blocks_real (h : Cert.Pre_InProjIdeal_finite m) (c : Dev nD) (t : Fin cfg0.N) :
    (∀ r k, IsReal (hrow (iblk m c 0 t) (iblk m c 1 t) r k)) ∧ (∀ k l, IsReal (iblk m c 3 t (ix2 k l)))
      ∧ ∀ k l, iblk m c 4 t (ix2 k l) = (0 : EReal) := by
  obtain ⟨ha, hb, hw⟩ := isReal_of_finite _ _ _ (h c)
  refine ⟨fun r k => ?_, fun k l => ?_, fun k l => ?_⟩
  · rw [hrow_block]
    exact isReal_rms (fun i => ha _) (fun i => hb _) k
  · rw [block3, entry13_apply]
    split_ifs
    · exact hw _
    · exact isReal_zero
  · rw [block4, entry16_apply]
    split_ifs
    · exact (hw _).sub_self
    · exact isReal_zero.sub_self

/-- The recurrence's inputs after the run are the reference's. -/
theorem final0 (c : Dev nD) : (dats m 0 c).arrAt 5 cfg0.N = result0 m c := by
  have hN : cfg0.N = 16 := N_0
  refine (dats m 0 c).arrAt_eq_of_covers 5 _ (by decide +kernel) fun t hf y => ?_
  blk_simp
  rw [after0_5]
  obtain ⟨r, j, rfl⟩ : ∃ (r : Fin 1024) (j : Fin 1792), y = ix2 r j := ⟨y 0, y 1, by idx_ext⟩
  have e : (win0_5.blk t).view.emb (ix2 r j) = (ix2 (row t r) j : S16384x1792.Idx) := by
    blk_ext [idx t]
  rw [e, out5_apply, main_block]
  refine Eq.trans ?_ (ProjRef.rec_apply _ _ _ (row t r) j).symm
  refine congrArg (proj _ _ _ (row t r)) (Fin.ext ?_)
  exact if_pos j.isLt

/-- The attention's queries after the run are the reference's. -/
theorem final1 (c : Dev nD) : (dats m 0 c).arrAt 6 cfg0.N = result1 m c := by
  have hN : cfg0.N = 16 := N_0
  refine (dats m 0 c).arrAt_eq_of_covers 6 _ (by decide +kernel) fun t hf y => ?_
  blk_simp
  rw [after0_6]
  obtain ⟨r, j, rfl⟩ : ∃ (r : Fin 1024) (j : Fin 512), y = ix2 r j := ⟨y 0, y 1, by idx_ext⟩
  have e : (win0_6.blk t).view.emb (ix2 r j) = (ix2 (row t r) j : S16384x512.Idx) := by
    blk_ext [idx t]
  rw [e, out6_apply, main_block]
  refine Eq.trans ?_ (ProjRef.q_apply _ _ _ (row t r) j).symm
  refine congrArg (proj _ _ _ (row t r)) (Fin.ext ?_)
  exact if_neg (by simp only; omega)

/-- The attention's keys after the run are the reference's. -/
theorem final2 (c : Dev nD) : (dats m 0 c).arrAt 7 cfg0.N = result2 m c := by
  have hN : cfg0.N = 16 := N_0
  refine (dats m 0 c).arrAt_eq_of_covers 7 _ (by decide +kernel) fun t hf y => ?_
  blk_simp
  rw [after0_7]
  obtain ⟨r, j, rfl⟩ : ∃ (r : Fin 1024) (j : Fin 512), y = ix2 r j := ⟨y 0, y 1, by idx_ext⟩
  have e : (win0_7.blk t).view.emb (ix2 r j) = (ix2 (row t r) j : S16384x512.Idx) := by
    blk_ext [idx t]
  rw [e, out7_apply, main_block]
  refine Eq.trans ?_ (ProjRef.k_apply _ _ _ (row t r) j).symm
  refine congrArg (proj _ _ _ (row t r)) (Fin.ext ?_)
  exact if_neg (by simp only; omega)

/-- The attention's values after the run are the reference's. -/
theorem final3 (c : Dev nD) : (dats m 0 c).arrAt 8 cfg0.N = result3 m c := by
  have hN : cfg0.N = 16 := N_0
  refine (dats m 0 c).arrAt_eq_of_covers 8 _ (by decide +kernel) fun t hf y => ?_
  blk_simp
  rw [after0_8]
  obtain ⟨r, j, rfl⟩ : ∃ (r : Fin 1024) (j : Fin 512), y = ix2 r j := ⟨y 0, y 1, by idx_ext⟩
  have e : (win0_8.blk t).view.emb (ix2 r j) = (ix2 (row t r) j : S16384x512.Idx) := by
    blk_ext [idx t]
  rw [e, out8_apply, main_block]
  refine Eq.trans ?_ (ProjRef.v_apply _ _ _ (row t r) j).symm
  refine congrArg (proj _ _ _ (row t r)) (Fin.ext ?_)
  exact if_neg (by simp only; omega)

/-- The indexer's queries after the run are the reference's. -/
theorem final4 (h : Cert.Pre_InProjIdeal_finite m) (c : Dev nD) : (dats m 0 c).arrAt 9 cfg0.N = result4 m c := by
  have hN : cfg0.N = 16 := N_0
  refine (dats m 0 c).arrAt_eq_of_covers 9 _ (by decide +kernel) fun t hf y => ?_
  blk_simp
  rw [after0_9]
  obtain ⟨n, r, j, rfl⟩ : ∃ (n : Fin 8) (r : Fin 1024) (j : Fin 192), y = ix3 n r j := ⟨y 0, y 1, y 2, by idx_ext⟩
  have e : (win0_9.blk t).view.emb (ix3 n r j) = (ix3 n (row t r) j : S8x16384x192.Idx) := by
    blk_ext [idx t]
  obtain ⟨hx, hw, hl⟩ := blocks_real m h c t
  rw [e, out9_apply _ _ _ _ _ n r j (hx r) hw hl]
  refine Eq.trans ?_ (ProjRef.query_apply _ _ _ n (row t r) j).symm
  split_ifs
  · rw [index_block, dif_pos (show 64 * n.val + j.val % 64 < 584 by omega)]
    exact congrArg (proj _ _ _ (row t r)) (Fin.ext (Nat.add_assoc _ _ _).symm)
  · rfl

/-- The indexer's key and head weights after the run are the reference's. -/
theorem final5 (h : Cert.Pre_InProjIdeal_finite m) (c : Dev nD) : (dats m 0 c).arrAt 10 cfg0.N = result5 m c := by
  have hN : cfg0.N = 16 := N_0
  refine (dats m 0 c).arrAt_eq_of_covers 10 _ (by decide +kernel) fun t hf y => ?_
  blk_simp
  rw [after0_10]
  obtain ⟨r, j, rfl⟩ : ∃ (r : Fin 1024) (j : Fin 128), y = ix2 r j := ⟨y 0, y 1, by idx_ext⟩
  have e : (win0_10.blk t).view.emb (ix2 r j) = (ix2 (row t r) j : S16384x128.Idx) := by
    blk_ext [idx t]
  obtain ⟨hx, hw, hl⟩ := blocks_real m h c t
  rw [e, out10_apply _ _ _ _ _ r j (hx r) hl, index_block]
  refine Eq.trans ?_ (ProjRef.key_apply _ _ _ (row t r) j).symm
  by_cases hj : j.val < 72
  · rw [dif_pos hj, dif_pos (show 512 + j.val < 584 by omega)]
    exact congrArg (proj _ _ _ (row t r)) (Fin.ext (Nat.add_assoc _ _ _).symm)
  · rw [dif_neg hj, dif_neg (show ¬ 512 + j.val < 584 by omega)]

/-- The kernel's run: the results are the reference's results of the arguments, and the arguments end as they were. -/
theorem run (h : Cert.Pre_InProjIdeal_finite m) :
    θ_run defs (onTc (τ := τ) (main (F := Ideal))) ⟨m, fun _ => 0, ρ⟩ fun r => ∀ c : Dev nD,
      r.2.mem ((c : Thread nD τ).loc main_v19_0) = result0 m c
      ∧ r.2.mem ((c : Thread nD τ).loc main_v19_1) = result1 m c
      ∧ r.2.mem ((c : Thread nD τ).loc main_v19_2) = result2 m c
      ∧ r.2.mem ((c : Thread nD τ).loc main_v19_3) = result3 m c
      ∧ r.2.mem ((c : Thread nD τ).loc main_v19_4) = result4 m c
      ∧ r.2.mem ((c : Thread nD τ).loc main_v19_5) = result5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ e c => by
    obtain ⟨e0, e1, e2, e3, e4, e5, e6⟩ := e c
    exact ⟨e0.trans (final0 m c), e1.trans (final1 m c), e2.trans (final2 m c), e3.trans (final3 m c),
      e4.trans (final4 m h c), e5.trans (final5 m h c), e6⟩) (Cert.InProjIdeal.Value.run_blocks m ρ)

end Cert.Proof.Proj

end
-- ==== Proof.lean ====
module

public import proofs.«01_k».proof.Defs
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Rwkv
public import proofs.«01_k».proof.Proof.Gen.Rwkv.Skeleton
public import proofs.«01_k».proof.Proof.Gen.Rwkv.Launch
public import proofs.«01_k».proof.Proof.Gen.Rwkv.Points
public import proofs.«01_k».proof.Proof.Gen.Rwkv.Frame
public import proofs.«01_k».proof.Proof.Gen.RwkvIdeal
public import proofs.«01_k».proof.Proof.Gen.RwkvIdeal.Skeleton
public import proofs.«01_k».proof.Proof.Gen.RwkvIdeal.Launch
public import proofs.«01_k».proof.Proof.Gen.RwkvIdeal.Points
public import proofs.«01_k».proof.Proof.Gen.RwkvIdeal.Frame
public import proofs.«01_k».proof.Proof.Gen.Pre_finite
public import proofs.«01_k».proof.Proof.Gen.PostIdeal.Value
public import proofs.«01_k».proof.Proof.Gen.InProjIdeal.Value
public import proofs.«01_k».proof.Proof.Gen.PostRefIdeal.Run
public import proofs.«01_k».proof.Proof.Gen.PostRefIdeal.Read
public import proofs.«01_k».proof.Proof.Gen.InProjRefIdeal.Run
public import proofs.«01_k».proof.Proof.Gen.InProjRefIdeal.Read
public import proofs.«01_k».proof.Proof.PostValue
public import proofs.«01_k».proof.Proof.ProjRun
public import Idealize.ShloMosaic.Lib.Claim
public import Idealize.ShloMosaic.Adequacy
public import Idealize.ShloMosaic.Init

@[expose] public section

noncomputable section

namespace Cert.Proof

open Idealize.ShloMosaic Idealize.SL.Sem Cert.Post

/-- The reference of the step after the mixers runs, its arguments end as they were, and it leaves no counter. -/
theorem postRef_frame : Cert.quiescent_PostRefIdeal := fun m ρ _ =>
  (θ_run Cert.PostRefIdeal.defs _ _).mono
    (fun r h => ⟨fun c => (h c).2, Idealize.ShloMosaic.sem_eq_zero_of_no_sems (by decide) r.2⟩)
    (Cert.PostRefIdeal.Value.run m ρ)

/-- The reference of the projection runs, its arguments end as they were, and it leaves no counter. -/
theorem projRef_frame (m : _) (ρ : _) : θ_run (Cert.InProjRefIdeal.defs (F := Ideal))
    (onTc (τ := Cert.InProjRefIdeal.τ) (Cert.InProjRefIdeal.main (F := Ideal))) ⟨m, fun _ => 0, ρ⟩ (fun r =>
      (∀ c : Dev Cert.InProjRefIdeal.nD,
        r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
        ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
        ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0) :=
  (θ_run Cert.InProjRefIdeal.defs _ _).mono
    (fun r h => ⟨fun c => (h c).2.2.2.2.2.2, Idealize.ShloMosaic.sem_eq_zero_of_no_sems (by decide) r.2⟩)
    (Cert.InProjRefIdeal.Value.run m ρ)

set_option maxRecDepth 16384 in
/-- The step after the mixers: kernel and reference end with the reference's result of the kernel's arguments. -/
theorem post_value : Cert.algebraic_PostIdeal_PostRefIdeal := fun m ρ m' ρ' _ hag =>
  ⟨fun c => Cert.Proof.Post.result m c, Cert.Proof.Post.run m ρ,
    (θ_run Cert.PostRefIdeal.defs _ _).mono (fun _ h c => ⟨(h c).1.trans (by
      obtain ⟨h0, h1, h2, h3, h4, h5, h6, h7, h8, h9, h10, h11, h12, h13⟩ := hag c
      refine (Cert.PostRefIdeal.Read.val_main_v85_eq (StableHlo.launchContents m' c)).trans ?_
      simp only [StableHlo.launchContents_devRef, h0, h1, h2, h3, h4, h5, h6, h7, h8, h9, h10, h11, h12, h13]
      rfl), (h c).2⟩) (Cert.PostRefIdeal.Value.run m' ρ')⟩

set_option maxRecDepth 16384 in
/-- The projection: of finite arguments kernel and reference end with the reference's results of the kernel's arguments. -/
theorem proj_value : Cert.algebraic_InProjIdeal_InProjRefIdeal_pre_finite := fun m ρ m' ρ' hp hag =>
  ⟨fun c => Proj.result0 m c, fun c => Proj.result1 m c, fun c => Proj.result2 m c, fun c => Proj.result3 m c,
    fun c => Proj.result4 m c, fun c => Proj.result5 m c, Proj.run m ρ hp,
    (θ_run Cert.InProjRefIdeal.defs _ _).mono (fun _ h c => by
      obtain ⟨h0, h1, h2⟩ := hag c
      obtain ⟨e0, e1, e2, e3, e4, e5, e6⟩ := h c
      refine ⟨(e0.trans (Cert.InProjRefIdeal.Read.val_main_v27_eq m' c)).trans ?_,
        (e1.trans (Cert.InProjRefIdeal.Read.val_main_v31_eq _ _ _)).trans ?_,
        (e2.trans (Cert.InProjRefIdeal.Read.val_main_v32_eq _ _ _)).trans ?_,
        (e3.trans (Cert.InProjRefIdeal.Read.val_main_v33_eq _ _ _)).trans ?_,
        (e4.trans (Cert.InProjRefIdeal.Read.val_main_v35_eq _ _ _)).trans ?_,
        (e5.trans (Cert.InProjRefIdeal.Read.val_main_v37_eq _ _ _)).trans ?_, e6⟩ <;> rw [h0, h1, h2] <;> rfl)
      (Cert.InProjRefIdeal.Value.run m' ρ')⟩

/-- The claim, its conjuncts one by one. -/
theorem claim : Cert.Claim := ⟨Cert.Post.Gen.facts, Cert.PostIdeal.Gen.facts, Cert.PostRefIdeal.Gen.facts, Cert.InProj.Gen.facts,
  Cert.InProjIdeal.Gen.facts, Cert.InProjRefIdeal.Gen.facts, Cert.Rwkv.Gen.facts, Cert.RwkvIdeal.Gen.facts,
  Cert.Pre_finite.Gen.facts,
  fun m ρ _ => Cert.Post.Gen.frame m ρ, fun m ρ _ => Cert.PostIdeal.Gen.frame m ρ, postRef_frame,
  fun m ρ _ => Cert.InProj.Gen.frame m ρ, fun m ρ _ => Cert.InProjIdeal.Gen.frame m ρ,
  fun m ρ _ => Cert.InProjIdeal.Gen.frame m ρ, fun m ρ _ => projRef_frame m ρ, fun m ρ _ => projRef_frame m ρ,
  fun m ρ _ => Cert.Rwkv.Gen.frame m ρ, fun m ρ _ => Cert.RwkvIdeal.Gen.frame m ρ,
  trivial, post_value, trivial, proj_value, trivial⟩

end Cert.Proof

end
